-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_weights [hPre_weights : Cert.Pre_weights.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_weights.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_weights [hPre_weights : Cert.Pre_weights.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_weights.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite4 [hPre_finite4 : Cert.Pre_finite4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite4 [hPre_finite4 : Cert.Pre_finite4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Kernel2Ideal_pre_weights [hKernel2Ideal : Cert.Kernel2Ideal.Facts] [hPre_weights : Cert.Pre_weights.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_weights m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Reference2Ideal_pre_weights [hReference2Ideal : Cert.Reference2Ideal.Facts] [hPre_weights : Cert.Pre_weights.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_weights m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Kernel4Ideal_pre_finite4 [hKernel4Ideal : Cert.Kernel4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Reference4Ideal_pre_finite4 [hReference4Ideal : Cert.Reference4Ideal.Facts] [hPre_finite4 : Cert.Pre_finite4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal_pre_weights [hKernel2Ideal : Cert.Kernel2Ideal.Facts] [hReference2Ideal : Cert.Reference2Ideal.Facts] [hPre_weights : Cert.Pre_weights.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_weights m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v153) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v20) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal_pre_finite4 [hKernel4Ideal : Cert.Kernel4Ideal.Facts] [hReference4Ideal : Cert.Reference4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v43_0)) (v1 : (c : Dev Cert.Kernel4Ideal.nD) → Buf (Elt Ideal) ((c.tc : Thread Cert.Kernel4Ideal.nD Cert.Kernel4Ideal.τ).loc Cert.Kernel4Ideal.main_v43_1)) (v2 : (c : Dev Cert.Kernel4Ideal.nD) → Buf (Elt Ideal) ((c.tc : Thread Cert.Kernel4Ideal.nD Cert.Kernel4Ideal.τ).loc Cert.Kernel4Ideal.main_v43_2)) (v3 : (c : Dev Cert.Kernel4Ideal.nD) → Buf (Elt Ideal) ((c.tc : Thread Cert.Kernel4Ideal.nD Cert.Kernel4Ideal.τ).loc Cert.Kernel4Ideal.main_v43_3)) (v4 : (c : Dev Cert.Kernel4Ideal.nD) → Buf (Elt Ideal) ((c.tc : Thread Cert.Kernel4Ideal.nD Cert.Kernel4Ideal.τ).loc Cert.Kernel4Ideal.main_v43_4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v43_0) = v0 c
          ∧ r.2.mem ((c.tc : Thread Cert.Kernel4Ideal.nD Cert.Kernel4Ideal.τ).loc Cert.Kernel4Ideal.main_v43_1) = v1 c
          ∧ r.2.mem ((c.tc : Thread Cert.Kernel4Ideal.nD Cert.Kernel4Ideal.τ).loc Cert.Kernel4Ideal.main_v43_2) = v2 c
          ∧ r.2.mem ((c.tc : Thread Cert.Kernel4Ideal.nD Cert.Kernel4Ideal.τ).loc Cert.Kernel4Ideal.main_v43_3) = v3 c
          ∧ r.2.mem ((c.tc : Thread Cert.Kernel4Ideal.nD Cert.Kernel4Ideal.τ).loc Cert.Kernel4Ideal.main_v43_4) = v4 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v72) = v0 c
          ∧ r.2.mem ((c.tc : Thread Cert.Reference4Ideal.nD Cert.Reference4Ideal.τ).loc Cert.Reference4Ideal.main_v88) = v1 c
          ∧ r.2.mem ((c.tc : Thread Cert.Reference4Ideal.nD Cert.Reference4Ideal.τ).loc Cert.Reference4Ideal.main_v89) = v2 c
          ∧ r.2.mem ((c.tc : Thread Cert.Reference4Ideal.nD Cert.Reference4Ideal.τ).loc Cert.Reference4Ideal.main_v90) = v3 c
          ∧ r.2.mem ((c.tc : Thread Cert.Reference4Ideal.nD Cert.Reference4Ideal.τ).loc Cert.Reference4Ideal.main_v92) = v4 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite : Cert.Pre_finite.Facts) (hPre_weights : Cert.Pre_weights.Facts) (hPre_finite4 : Cert.Pre_finite4.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_weights (hKernel2Ideal := hKernel2Ideal) (hPre_weights := hPre_weights)
    ∧ quiescent_Reference2Ideal (hReference2Ideal := hReference2Ideal)
    ∧ quiescent_Reference2Ideal_pre_weights (hReference2Ideal := hReference2Ideal) (hPre_weights := hPre_weights)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite4 (hKernel4Ideal := hKernel4Ideal) (hPre_finite4 := hPre_finite4)
    ∧ quiescent_Reference4Ideal (hReference4Ideal := hReference4Ideal)
    ∧ quiescent_Reference4Ideal_pre_finite4 (hReference4Ideal := hReference4Ideal) (hPre_finite4 := hPre_finite4)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_weights (hKernel2Ideal := hKernel2Ideal) (hReference2Ideal := hReference2Ideal) (hPre_weights := hPre_weights)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite4 (hKernel4Ideal := hKernel4Ideal) (hReference4Ideal := hReference4Ideal) (hPre_finite4 := hPre_finite4)
-- ==== Pre_finite.lean ====
abbrev S16x8192x640 : Shape := ⟨3, ![16, 8192, 640]⟩
abbrev S8192x640 : Shape := ⟨2, ![8192, 640]⟩
abbrev S16x512x128 : Shape := ⟨3, ![16, 512, 128]⟩
abbrev S_ : Shape := ⟨0, ![]⟩

class Facts : Prop where
  bitsLt_bf16_f32 : FTy.bits .bf16 < FTy.bits .f32
  bcast_S_S16x8192x640 : S_.BroadcastsInDim S16x8192x640 (![] : Fin 0 → Fin S16x8192x640.rank)
  reducesTo_S16x8192x640_S_d0_1_2 : S16x8192x640.ReducesTo [0, 1, 2] S_
  h_S_ : 0 < S_.numel
  bcast_S_S8192x640 : S_.BroadcastsInDim S8192x640 (![] : Fin 0 → Fin S8192x640.rank)
  reducesTo_S8192x640_S_d0_1 : S8192x640.ReducesTo [0, 1] S_

variable [Facts]

def fn {F : FTy → Type} [FloatOps F] (main_arg0 : FVec F S16x8192x640 .bf16) (main_arg1 : FVec F S8192x640 .bf16) (main_arg2 : FVec F S16x512x128 .bf16) : IVec S_ 1 :=
  let main_v0 : FVec F S16x8192x640 .f32 := (extf .f32 · bitsLt_bf16_f32) main_arg0
  let main_v1 : FVec F S16x8192x640 .f32 := Host.absf main_v0
  let main_cst : FVec F S_ .f32 := constant S_ .f32 0x7F800000#32
  let main_v2 : FVec F S16x8192x640 .f32 := broadcastInDim S16x8192x640 ![] bcast_S_S16x8192x640 main_cst
  let main_v3 : IVec S16x8192x640 1 := cmpf .olt main_v1 main_v2
  let main_c : IVec S_ 1 := constantI S_ 1 1#1
  let main_v4 : IVec S_ 1 := (fun x v => Host.reduce IntOp.andi x v reducesTo_S16x8192x640_S_d0_1_2 h_S_) main_v3 main_c
  let main_v5 : FVec F S8192x640 .f32 := (extf .f32 · bitsLt_bf16_f32) main_arg1
  let main_v6 : FVec F S8192x640 .f32 := Host.absf main_v5
  let main_cst_0 : FVec F S_ .f32 := constant S_ .f32 0x7F800000#32
  let main_v7 : FVec F S8192x640 .f32 := broadcastInDim S8192x640 ![] bcast_S_S8192x640 main_cst_0
  let main_v8 : IVec S8192x640 1 := cmpf .olt main_v6 main_v7
  let main_c_1 : IVec S_ 1 := constantI S_ 1 1#1
  let main_v9 : IVec S_ 1 := (fun x v => Host.reduce IntOp.andi x v reducesTo_S8192x640_S_d0_1 h_S_) main_v8 main_c_1
  let main_v10 : IVec S_ 1 := andi main_v4 main_v9
  main_v10
-- ==== Pre_finite4.lean ====
abbrev S2x4096x2048 : Shape := ⟨3, ![2, 4096, 2048]⟩
abbrev S1x2048 : Shape := ⟨2, ![1, 2048]⟩
abbrev S1x2048x2112 : Shape := ⟨3, ![1, 2048, 2112]⟩
abbrev S1x512 : Shape := ⟨2, ![1, 512]⟩
abbrev S_ : Shape := ⟨0, ![]⟩

class Facts : Prop where
  bcast_S_S1x2048 : S_.BroadcastsInDim S1x2048 (![] : Fin 0 → Fin S1x2048.rank)
  reducesTo_S1x2048_S_d0_1 : S1x2048.ReducesTo [0, 1] S_
  h_S_ : 0 < S_.numel
  bcast_S_S1x2048x2112 : S_.BroadcastsInDim S1x2048x2112 (![] : Fin 0 → Fin S1x2048x2112.rank)
  reducesTo_S1x2048x2112_S_d0_1_2 : S1x2048x2112.ReducesTo [0, 1, 2] S_

variable [Facts]

def fn {F : FTy → Type} [FloatOps F] (main_arg0 : FVec F S2x4096x2048 .f32) (main_arg1 : FVec F S1x2048 .f32) (main_arg2 : FVec F S1x2048x2112 .f32) (main_arg3 : FVec F S1x512 .f32) (main_arg4 : FVec F S1x512 .f32) : IVec S_ 1 :=
  let main_v0 : FVec F S1x2048 .f32 := Host.absf main_arg1
  let main_cst : FVec F S_ .f32 := constant S_ .f32 0x7F800000#32
  let main_v1 : FVec F S1x2048 .f32 := broadcastInDim S1x2048 ![] bcast_S_S1x2048 main_cst
  let main_v2 : IVec S1x2048 1 := cmpf .olt main_v0 main_v1
  let main_c : IVec S_ 1 := constantI S_ 1 1#1
  let main_v3 : IVec S_ 1 := (fun x v => Host.reduce IntOp.andi x v reducesTo_S1x2048_S_d0_1 h_S_) main_v2 main_c
  let main_v4 : FVec F S1x2048x2112 .f32 := Host.absf main_arg2
  let main_cst_0 : FVec F S_ .f32 := constant S_ .f32 0x7F800000#32
  let main_v5 : FVec F S1x2048x2112 .f32 := broadcastInDim S1x2048x2112 ![] bcast_S_S1x2048x2112 main_cst_0
  let main_v6 : IVec S1x2048x2112 1 := cmpf .olt main_v4 main_v5
  let main_c_1 : IVec S_ 1 := constantI S_ 1 1#1
  let main_v7 : IVec S_ 1 := (fun x v => Host.reduce IntOp.andi x v reducesTo_S1x2048x2112_S_d0_1_2 h_S_) main_v6 main_c_1
  let main_v8 : IVec S_ 1 := andi main_v3 main_v7
  main_v8
-- ==== Pre_weights.lean ====
abbrev S8192x2048 : Shape := ⟨2, ![8192, 2048]⟩
abbrev S1x2048 : Shape := ⟨2, ![1, 2048]⟩
abbrev S8192x8 : Shape := ⟨2, ![8192, 8]⟩
abbrev S8x2048x5632 : Shape := ⟨3, ![8, 2048, 5632]⟩
abbrev S8x2816x2048 : Shape := ⟨3, ![8, 2816, 2048]⟩
abbrev S_ : Shape := ⟨0, ![]⟩

class Facts : Prop where
  bcast_S_S8192x8 : S_.BroadcastsInDim S8192x8 (![] : Fin 0 → Fin S8192x8.rank)

variable [Facts]

def fn {F : FTy → Type} [FloatOps F] (main_arg0 : FVec F S8192x2048 .f32) (main_arg1 : FVec F S1x2048 .f32) (main_arg2 : FVec F S8192x8 .f32) (main_arg3 : FVec F S8x2048x5632 .bf16) (main_arg4 : FVec F S8x2816x2048 .bf16) (main_arg5 : FVec F S1x2048 .f32) : IVec S8192x8 1 :=
  let main_cst : FVec F S_ .f32 := constant S_ .f32 0x00000000#32
  let main_v0 : FVec F S8192x8 .f32 := broadcastInDim S8192x8 ![] bcast_S_S8192x8 main_cst
  let main_v1 : IVec S8192x8 1 := cmpf .oge main_arg2 main_v0
  let main_cst_0 : FVec F S_ .f32 := constant S_ .f32 0x7F800000#32
  let main_v2 : FVec F S8192x8 .f32 := broadcastInDim S8192x8 ![] bcast_S_S8192x8 main_cst_0
  let main_v3 : IVec S8192x8 1 := cmpf .olt main_arg2 main_v2
  let main_v4 : IVec S8192x8 1 := andi main_v1 main_v3
  main_v4
-- ==== Kernel.lean ====
abbrev S16x8192x640 : Shape := ⟨3, ![16, 8192, 640]⟩
abbrev S8192x640 : Shape := ⟨2, ![8192, 640]⟩
abbrev S16x512x128 : Shape := ⟨3, ![16, 512, 128]⟩
abbrev S8192x2048 : Shape := ⟨2, ![8192, 2048]⟩
abbrev S16x128x640 : Shape := ⟨3, ![16, 128, 640]⟩
abbrev S512x640 : Shape := ⟨2, ![512, 640]⟩
abbrev S128x2048 : Shape := ⟨2, ![128, 2048]⟩
abbrev S2048x1 : Shape := ⟨2, ![2048, 1]⟩
abbrev S2048x512 : Shape := ⟨2, ![2048, 512]⟩
abbrev S2048x640 : Shape := ⟨2, ![2048, 640]⟩
abbrev S2048 : Shape := ⟨1, ![2048]⟩
abbrev S512x512 : Shape := ⟨2, ![512, 512]⟩
abbrev S128x512 : Shape := ⟨2, ![128, 512]⟩
abbrev S1x512x128 : Shape := ⟨3, ![1, 512, 128]⟩
abbrev S512x128 : Shape := ⟨2, ![512, 128]⟩
abbrev S128x128 : Shape := ⟨2, ![128, 128]⟩

abbrev nBuf : Space → Nat
  | .hbm => 4
  | .vmem => 10
  | .smem => 0
  | _ => 0

abbrev bufTy : (tb : Table) → Fin (tcTables nBuf tb) → BufTy
  | .hbm, ⟨0, _⟩ => ⟨S16x8192x640, .bf16⟩
  | .hbm, ⟨1, _⟩ => ⟨S8192x640, .bf16⟩
  | .hbm, ⟨2, _⟩ => ⟨S16x512x128, .bf16⟩
  | .hbm, ⟨3, _⟩ => ⟨S8192x2048, .bf16⟩
  | .local _ .vmem, ⟨0, _⟩ => ⟨S16x128x640, .bf16⟩
  | .local _ .vmem, ⟨1, _⟩ => ⟨S16x128x640, .bf16⟩
  | .local _ .vmem, ⟨2, _⟩ => ⟨S512x640, .bf16⟩
  | .local _ .vmem, ⟨3, _⟩ => ⟨S512x640, .bf16⟩
  | .local _ .vmem, ⟨4, _⟩ => ⟨S16x512x128, .bf16⟩
  | .local _ .vmem, ⟨5, _⟩ => ⟨S128x2048, .bf16⟩
  | .local _ .vmem, ⟨6, _⟩ => ⟨S128x2048, .bf16⟩
  | .local _ .vmem, ⟨7, _⟩ => ⟨S2048x1, .f32⟩
  | .local _ .vmem, ⟨8, _⟩ => ⟨S2048x1, .f32⟩
  | .local _ .vmem, ⟨9, _⟩ => ⟨S2048x512, .f32⟩
  | _, _ => ⟨S16x8192x640, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![2, 32, 8], ![false, false, false]⟩

def k0_cond3 (i : grid0.Coords) : BitVec 1 :=
  let arg2 : BitVec 32 := BitVec.ofNat 32 (i 2).val
  let arg1 : BitVec 32 := BitVec.ofNat 32 (i 1).val
  let c128_i32_9 : BitVec 32 := 128#32
  let v26 : BitVec 32 := Scalar.muli arg1 c128_i32_9
  let c128_i32_10 : BitVec 32 := 128#32
  let v27 : BitVec 32 := Scalar.addi v26 c128_i32_10
  let c1_i32_11 : BitVec 32 := 1#32
  let v28 : BitVec 32 := Scalar.subi v27 c1_i32_11
  let c0_i32_13 : BitVec 32 := 0#32
  let v30 : BitVec 1 := Scalar.cmpi .sgt v28 c0_i32_13
  let v31 : BitVec 32 := Scalar.extui v30
  let c0_i32_14 : BitVec 32 := 0#32
  let v32 : BitVec 1 := Scalar.cmpi .slt v28 c0_i32_14
  let v33 : BitVec 32 := Scalar.extui v32
  let v34 : BitVec 32 := Scalar.subi v31 v33
  let c512_i32_12 : BitVec 32 := 512#32
  let c0_i32_15 : BitVec 32 := 0#32
  let v35 : BitVec 1 := Scalar.cmpi .sgt c512_i32_12 c0_i32_15
  let v36 : BitVec 32 := Scalar.extui v35
  let c0_i32_16 : BitVec 32 := 0#32
  let v37 : BitVec 1 := Scalar.cmpi .slt c512_i32_12 c0_i32_16
  let v38 : BitVec 32 := Scalar.extui v37
  let v39 : BitVec 32 := Scalar.subi v36 v38
  let v40 : BitVec 1 := Scalar.cmpi .ne v34 v39
  let v41 : BitVec 32 := Scalar.remsi v28 c512_i32_12
  let c0_i32_17 : BitVec 32 := 0#32
  let v42 : BitVec 1 := Scalar.cmpi .ne v41 c0_i32_17
  let v43 : BitVec 1 := Scalar.andi v40 v42
  let v29 : BitVec 32 := Scalar.divsi v28 c512_i32_12
  let c1_i32_18 : BitVec 32 := 1#32
  let v44 : BitVec 32 := Scalar.subi v29 c1_i32_18
  let v45 : BitVec 32 := Scalar.select v43 v44 v29
  let v46 : BitVec 1 := Scalar.cmpi .eq arg2 v45
  let v47 : BitVec 32 := Scalar.extui v46
  let c0_i32_19 : BitVec 32 := 0#32
  let v48 : BitVec 1 := Scalar.cmpi .ne v47 c0_i32_19
  v48

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let c128_i32 : BitVec 32 := 128#32
  let v1 : BitVec 32 := Scalar.muli arg1 c128_i32
  let c128_i32_0 : BitVec 32 := 128#32
  let v2 : BitVec 32 := Scalar.addi v1 c128_i32_0
  let c1_i32 : BitVec 32 := 1#32
  let v3 : BitVec 32 := Scalar.subi v2 c1_i32
  let c512_i32 : BitVec 32 := 512#32
  let v4 : BitVec 32 := Scalar.divsi v3 c512_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c512_i32 c0_i32_2
  let v11 : BitVec 32 := Scalar.extui v10
  let c0_i32_3 : BitVec 32 := 0#32
  let v12 : BitVec 1 := Scalar.cmpi .slt c512_i32 c0_i32_3
  let v13 : BitVec 32 := Scalar.extui v12
  let v14 : BitVec 32 := Scalar.subi v11 v13
  let v15 : BitVec 1 := Scalar.cmpi .ne v9 v14
  let v16 : BitVec 32 := Scalar.remsi v3 c512_i32
  let c0_i32_4 : BitVec 32 := 0#32
  let v17 : BitVec 1 := Scalar.cmpi .ne v16 c0_i32_4
  let v18 : BitVec 1 := Scalar.andi v15 v17
  let c1_i32_5 : BitVec 32 := 1#32
  let v19 : BitVec 32 := Scalar.subi v4 c1_i32_5
  let v20 : BitVec 32 := Scalar.select v18 v19 v4
  let v21 : BitVec 32 := Scalar.minsi arg2 v20
  let v22 : BitVec 32 := Scalar.addi v0 v21
  let c0_i32_6 : BitVec 32 := 0#32
  let c0_i32_7 : BitVec 32 := 0#32
  ![v22.toNat, c0_i32_6.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S16x128x640 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S512x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 1 → Memref sig .tc .vmem S16x512x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S128x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== KernelIdeal.lean ====
variable {F : FTy → Type} [FloatOps F] [Named F]
def κ : String → Option EReal := fun
  | "mask" => some ⊥
  | _ => none
-- ==== ReferenceIdeal.lean ====
abbrev S16x8192x640 : Shape := ⟨3, ![16, 8192, 640]⟩
abbrev S8192x640 : Shape := ⟨2, ![8192, 640]⟩
abbrev S16x512x128 : Shape := ⟨3, ![16, 512, 128]⟩
abbrev S16x2x4096x640 : Shape := ⟨4, ![16, 2, 4096, 640]⟩
abbrev S2x4096x16x640 : Shape := ⟨4, ![2, 4096, 16, 640]⟩
abbrev S2x4096x640 : Shape := ⟨3, ![2, 4096, 640]⟩
abbrev S2x4096x16x512 : Shape := ⟨4, ![2, 4096, 16, 512]⟩
abbrev S2x4096x16x128 : Shape := ⟨4, ![2, 4096, 16, 128]⟩
abbrev S2x4096x512 : Shape := ⟨3, ![2, 4096, 512]⟩
abbrev S2x4096x128 : Shape := ⟨3, ![2, 4096, 128]⟩
abbrev S4096 : Shape := ⟨1, ![4096]⟩
abbrev S2x4096x4096x16 : Shape := ⟨4, ![2, 4096, 4096, 16]⟩
abbrev S2x16x4096x4096 : Shape := ⟨4, ![2, 16, 4096, 4096]⟩
abbrev S1x4096 : Shape := ⟨2, ![1, 4096]⟩
abbrev S4096x1 : Shape := ⟨2, ![4096, 1]⟩
abbrev S4096x4096 : Shape := ⟨2, ![4096, 4096]⟩
abbrev S_ : Shape := ⟨0, ![]⟩
abbrev S2x16x4096 : Shape := ⟨3, ![2, 16, 4096]⟩
abbrev S2x16x4096x1 : Shape := ⟨4, ![2, 16, 4096, 1]⟩
abbrev S2x512x16x4096 : Shape := ⟨4, ![2, 512, 16, 4096]⟩
abbrev S16x128x2x4096 : Shape := ⟨4, ![16, 128, 2, 4096]⟩
abbrev S8192x2048 : Shape := ⟨2, ![8192, 2048]⟩

abbrev nBuf : Space → Nat
  | .hbm => 49
  | .vmem => 0
  | .smem => 0
  | _ => 0

abbrev bufTy : (tb : Table) → Fin (tcTables nBuf tb) → BufTy
  | .hbm, ⟨0, _⟩ => ⟨S16x8192x640, .bf16⟩
  | .hbm, ⟨1, _⟩ => ⟨S8192x640, .bf16⟩
  | .hbm, ⟨2, _⟩ => ⟨S16x512x128, .bf16⟩
  | .hbm, ⟨3, _⟩ => ⟨S16x8192x640, .f32⟩
  | .hbm, ⟨4, _⟩ => ⟨S16x2x4096x640, .f32⟩
  | .hbm, ⟨5, _⟩ => ⟨S2x4096x16x640, .f32⟩
  | .hbm, ⟨6, _⟩ => ⟨S8192x640, .f32⟩
  | .hbm, ⟨7, _⟩ => ⟨S2x4096x640, .f32⟩
  | .hbm, ⟨8, _⟩ => ⟨S2x4096x16x512, .f32⟩
  | .hbm, ⟨9, _⟩ => ⟨S2x4096x16x128, .f32⟩
  | .hbm, ⟨10, _⟩ => ⟨S2x4096x512, .f32⟩
  | .hbm, ⟨11, _⟩ => ⟨S2x4096x128, .f32⟩
  | .hbm, ⟨12, _⟩ => ⟨S4096, .i32⟩
  | .hbm, ⟨13, _⟩ => ⟨S2x4096x4096x16, .f32⟩
  | .hbm, ⟨14, _⟩ => ⟨S2x16x4096x4096, .f32⟩
  | .hbm, ⟨15, _⟩ => ⟨S2x4096x4096x16, .f32⟩
  | .hbm, ⟨16, _⟩ => ⟨S2x16x4096x4096, .f32⟩
  | .hbm, ⟨17, _⟩ => ⟨S2x16x4096x4096, .f32⟩
  | .hbm, ⟨18, _⟩ => ⟨S1x4096, .i32⟩
  | .hbm, ⟨19, _⟩ => ⟨S4096x1, .i32⟩
  | .hbm, ⟨20, _⟩ => ⟨S4096x4096, .i32⟩
  | .hbm, ⟨21, _⟩ => ⟨S4096x4096, .i32⟩
  | .hbm, ⟨22, _⟩ => ⟨S4096x4096, .i1⟩
  | .hbm, ⟨23, _⟩ => ⟨S_, .f32⟩
  | .hbm, ⟨24, _⟩ => ⟨S_, .f32⟩
  | .hbm, ⟨25, _⟩ => ⟨S2x16x4096x4096, .i1⟩
  | .hbm, ⟨26, _⟩ => ⟨S2x16x4096x4096, .f32⟩
  | .hbm, ⟨27, _⟩ => ⟨S2x16x4096x4096, .f32⟩
  | .hbm, ⟨28, _⟩ => ⟨S_, .f32⟩
  | .hbm, ⟨29, _⟩ => ⟨S2x16x4096, .f32⟩
  | .hbm, ⟨30, _⟩ => ⟨S_, .f32⟩
  | .hbm, ⟨31, _⟩ => ⟨S2x16x4096, .f32⟩
  | .hbm, ⟨32, _⟩ => ⟨S2x16x4096, .f32⟩
  | .hbm, ⟨33, _⟩ => ⟨S2x16x4096x1, .f32⟩
  | .hbm, ⟨34, _⟩ => ⟨S2x16x4096x4096, .f32⟩
  | .hbm, ⟨35, _⟩ => ⟨S2x16x4096x4096, .f32⟩
  | .hbm, ⟨36, _⟩ => ⟨S2x16x4096x4096, .f32⟩
  | .hbm, ⟨37, _⟩ => ⟨S_, .f32⟩
  | .hbm, ⟨38, _⟩ => ⟨S2x16x4096, .f32⟩
  | .hbm, ⟨39, _⟩ => ⟨S2x16x4096x1, .f32⟩
  | .hbm, ⟨40, _⟩ => ⟨S2x16x4096x4096, .f32⟩
  | .hbm, ⟨41, _⟩ => ⟨S2x16x4096x4096, .f32⟩
  | .hbm, ⟨42, _⟩ => ⟨S2x512x16x4096, .f32⟩
  | .hbm, ⟨43, _⟩ => ⟨S2x4096x16x512, .f32⟩
  | .hbm, ⟨44, _⟩ => ⟨S16x512x128, .f32⟩
  | .hbm, ⟨45, _⟩ => ⟨S16x128x2x4096, .f32⟩
  | .hbm, ⟨46, _⟩ => ⟨S2x4096x16x128, .f32⟩
  | .hbm, ⟨47, _⟩ => ⟨S8192x2048, .f32⟩
  | .hbm, ⟨48, _⟩ => ⟨S8192x2048, .bf16⟩
  | _, _ => ⟨S16x8192x640, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_cst : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_v20 : Ref sig .tc := ⟨.hbm, 27, rfl⟩
abbrev main_cst_0 : Ref sig .tc := ⟨.hbm, 28, rfl⟩
abbrev main_v21 : Ref sig .tc := ⟨.hbm, 29, rfl⟩
abbrev main_cst_1 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_2 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩

abbrev nD : Nat := 1
abbrev τ : Topo := Topo.v7x

variable {F : FTy → Type} [FloatOps F]
-- ==== Kernel2.lean ====
abbrev S8192x2048 : Shape := ⟨2, ![8192, 2048]⟩
abbrev S1x2048 : Shape := ⟨2, ![1, 2048]⟩
abbrev S8192x8 : Shape := ⟨2, ![8192, 8]⟩
abbrev S8x2048x5632 : Shape := ⟨3, ![8, 2048, 5632]⟩
abbrev S8x2816x2048 : Shape := ⟨3, ![8, 2816, 2048]⟩
abbrev S512x2048 : Shape := ⟨2, ![512, 2048]⟩
abbrev S512x8 : Shape := ⟨2, ![512, 8]⟩
abbrev S1x2048x256 : Shape := ⟨3, ![1, 2048, 256]⟩
abbrev S1x256x2048 : Shape := ⟨3, ![1, 256, 2048]⟩
abbrev S512 : Shape := ⟨1, ![512]⟩
abbrev S512x1 : Shape := ⟨2, ![512, 1]⟩
abbrev S2048x256 : Shape := ⟨2, ![2048, 256]⟩
abbrev S512x256 : Shape := ⟨2, ![512, 256]⟩
abbrev S256x2048 : Shape := ⟨2, ![256, 2048]⟩

abbrev nBuf : Space → Nat
  | .hbm => 7
  | .vmem => 15
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x8, .f32⟩
  | .hbm, ⟨3, _⟩ => ⟨S8x2048x5632, .bf16⟩
  | .hbm, ⟨4, _⟩ => ⟨S8x2816x2048, .bf16⟩
  | .hbm, ⟨5, _⟩ => ⟨S1x2048, .f32⟩
  | .hbm, ⟨6, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x8, .f32⟩
  | .local _ .vmem, ⟨4, _⟩ => ⟨S512x8, .f32⟩
  | .local _ .vmem, ⟨5, _⟩ => ⟨S1x2048x256, .bf16⟩
  | .local _ .vmem, ⟨6, _⟩ => ⟨S1x2048x256, .bf16⟩
  | .local _ .vmem, ⟨7, _⟩ => ⟨S1x2048x256, .bf16⟩
  | .local _ .vmem, ⟨8, _⟩ => ⟨S1x2048x256, .bf16⟩
  | .local _ .vmem, ⟨9, _⟩ => ⟨S1x256x2048, .bf16⟩
  | .local _ .vmem, ⟨10, _⟩ => ⟨S1x256x2048, .bf16⟩
  | .local _ .vmem, ⟨11, _⟩ => ⟨S1x2048, .f32⟩
  | .local _ .vmem, ⟨12, _⟩ => ⟨S512x2048, .f32⟩
  | .local _ .vmem, ⟨13, _⟩ => ⟨S512x2048, .f32⟩
  | .local _ .vmem, ⟨14, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨3, ![16, 8, 11], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c11_i32 : BitVec 32 := 11#32
  let v0 : BitVec 32 := Scalar.addi c11_i32 arg2
  let c0_i32 : BitVec 32 := 0#32
  let c0_i32_0 : BitVec 32 := 0#32
  ![arg1.toNat, c0_i32.toNat, v0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S512x8 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1x2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, true]

abbrev stage0_5 : Fin 2 → Memref sig .tc .vmem S1x256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]
-- ==== Reference2Ideal.lean ====
abbrev S8192x2048 : Shape := ⟨2, ![8192, 2048]⟩
abbrev S1x2048 : Shape := ⟨2, ![1, 2048]⟩
abbrev S8192x8 : Shape := ⟨2, ![8192, 8]⟩
abbrev S8x2048x5632 : Shape := ⟨3, ![8, 2048, 5632]⟩
abbrev S8x2816x2048 : Shape := ⟨3, ![8, 2816, 2048]⟩
abbrev S_ : Shape := ⟨0, ![]⟩
abbrev S8192 : Shape := ⟨1, ![8192]⟩
abbrev S8192x1 : Shape := ⟨2, ![8192, 1]⟩
abbrev S1x2048x5632 : Shape := ⟨3, ![1, 2048, 5632]⟩
abbrev S2048x5632 : Shape := ⟨2, ![2048, 5632]⟩
abbrev S1x2816x2048 : Shape := ⟨3, ![1, 2816, 2048]⟩
abbrev S2816x2048 : Shape := ⟨2, ![2816, 2048]⟩
abbrev S8192x5632 : Shape := ⟨2, ![8192, 5632]⟩
abbrev S8192x2816 : Shape := ⟨2, ![8192, 2816]⟩

abbrev nBuf : Space → Nat
  | .hbm => 231
  | .vmem => 0
  | .smem => 0
  | _ => 0

abbrev hbmTy0_0 (i : Nat) : BufTy := match i % 128 with
  | 0 => ⟨S8192x2048, .f32⟩
  | 1 => ⟨S1x2048, .f32⟩
  | 2 => ⟨S8192x8, .f32⟩
  | 3 => ⟨S8x2048x5632, .bf16⟩
  | 4 => ⟨S8x2816x2048, .bf16⟩
  | 5 => ⟨S1x2048, .f32⟩
  | 6 => ⟨S8192x2048, .f32⟩
  | 7 => ⟨S_, .f32⟩
  | 8 => ⟨S8192, .f32⟩
  | 9 => ⟨S8192x1, .f32⟩
  | 10 => ⟨S_, .f32⟩
  | 11 => ⟨S8192x1, .f32⟩
  | 12 => ⟨S8192x1, .f32⟩
  | 13 => ⟨S_, .f32⟩
  | 14 => ⟨S8192x1, .f32⟩
  | 15 => ⟨S8192x1, .f32⟩
  | 16 => ⟨S8192x1, .f32⟩
  | 17 => ⟨S8192x2048, .f32⟩
  | 18 => ⟨S8192x2048, .f32⟩
  | 19 => ⟨S8192x2048, .f32⟩
  | 20 => ⟨S8192x2048, .f32⟩
  | 21 => ⟨S_, .f32⟩
  | 22 => ⟨S8192x2048, .f32⟩
  | 23 => ⟨S1x2048x5632, .bf16⟩
  | 24 => ⟨S2048x5632, .bf16⟩
  | 25 => ⟨S2048x5632, .f32⟩
  | 26 => ⟨S1x2816x2048, .bf16⟩
  | 27 => ⟨S2816x2048, .bf16⟩
  | 28 => ⟨S2816x2048, .f32⟩
  | 29 => ⟨S8192x5632, .f32⟩
  | 30 => ⟨S8192x2816, .f32⟩
  | 31 => ⟨S8192x2816, .f32⟩
  | 32 => ⟨S8192x2816, .f32⟩
  | 33 => ⟨S8192x2816, .f32⟩
  | 34 => ⟨S_, .f32⟩
  | 35 => ⟨S8192x2816, .f32⟩
  | 36 => ⟨S8192x2816, .f32⟩
  | 37 => ⟨S_, .f32⟩
  | 38 => ⟨S8192x2816, .f32⟩
  | 39 => ⟨S8192x2816, .f32⟩
  | 40 => ⟨S8192x2816, .f32⟩
  | 41 => ⟨S8192x2816, .f32⟩
  | 42 => ⟨S8192x2048, .f32⟩
  | 43 => ⟨S8192x1, .f32⟩
  | 44 => ⟨S8192x2048, .f32⟩
  | 45 => ⟨S8192x2048, .f32⟩
  | 46 => ⟨S8192x2048, .f32⟩
  | 47 => ⟨S1x2048x5632, .bf16⟩
  | 48 => ⟨S2048x5632, .bf16⟩
  | 49 => ⟨S2048x5632, .f32⟩
  | 50 => ⟨S1x2816x2048, .bf16⟩
  | 51 => ⟨S2816x2048, .bf16⟩
  | 52 => ⟨S2816x2048, .f32⟩
  | 53 => ⟨S8192x5632, .f32⟩
  | 54 => ⟨S8192x2816, .f32⟩
  | 55 => ⟨S8192x2816, .f32⟩
  | 56 => ⟨S8192x2816, .f32⟩
  | 57 => ⟨S8192x2816, .f32⟩
  | 58 => ⟨S_, .f32⟩
  | 59 => ⟨S8192x2816, .f32⟩
  | 60 => ⟨S8192x2816, .f32⟩
  | 61 => ⟨S_, .f32⟩
  | 62 => ⟨S8192x2816, .f32⟩
  | 63 => ⟨S8192x2816, .f32⟩
  | 64 => ⟨S8192x2816, .f32⟩
  | 65 => ⟨S8192x2816, .f32⟩
  | 66 => ⟨S8192x2048, .f32⟩
  | 67 => ⟨S8192x1, .f32⟩
  | 68 => ⟨S8192x2048, .f32⟩
  | 69 => ⟨S8192x2048, .f32⟩
  | 70 => ⟨S8192x2048, .f32⟩
  | 71 => ⟨S1x2048x5632, .bf16⟩
  | 72 => ⟨S2048x5632, .bf16⟩
  | 73 => ⟨S2048x5632, .f32⟩
  | 74 => ⟨S1x2816x2048, .bf16⟩
  | 75 => ⟨S2816x2048, .bf16⟩
  | 76 => ⟨S2816x2048, .f32⟩
  | 77 => ⟨S8192x5632, .f32⟩
  | 78 => ⟨S8192x2816, .f32⟩
  | 79 => ⟨S8192x2816, .f32⟩
  | 80 => ⟨S8192x2816, .f32⟩
  | 81 => ⟨S8192x2816, .f32⟩
  | 82 => ⟨S_, .f32⟩
  | 83 => ⟨S8192x2816, .f32⟩
  | 84 => ⟨S8192x2816, .f32⟩
  | 85 => ⟨S_, .f32⟩
  | 86 => ⟨S8192x2816, .f32⟩
  | 87 => ⟨S8192x2816, .f32⟩
  | 88 => ⟨S8192x2816, .f32⟩
  | 89 => ⟨S8192x2816, .f32⟩
  | 90 => ⟨S8192x2048, .f32⟩
  | 91 => ⟨S8192x1, .f32⟩
  | 92 => ⟨S8192x2048, .f32⟩
  | 93 => ⟨S8192x2048, .f32⟩
  | 94 => ⟨S8192x2048, .f32⟩
  | 95 => ⟨S1x2048x5632, .bf16⟩
  | 96 => ⟨S2048x5632, .bf16⟩
  | 97 => ⟨S2048x5632, .f32⟩
  | 98 => ⟨S1x2816x2048, .bf16⟩
  | 99 => ⟨S2816x2048, .bf16⟩
  | 100 => ⟨S2816x2048, .f32⟩
  | 101 => ⟨S8192x5632, .f32⟩
  | 102 => ⟨S8192x2816, .f32⟩
  | 103 => ⟨S8192x2816, .f32⟩
  | 104 => ⟨S8192x2816, .f32⟩
  | 105 => ⟨S8192x2816, .f32⟩
  | 106 => ⟨S_, .f32⟩
  | 107 => ⟨S8192x2816, .f32⟩
  | 108 => ⟨S8192x2816, .f32⟩
  | 109 => ⟨S_, .f32⟩
  | 110 => ⟨S8192x2816, .f32⟩
  | 111 => ⟨S8192x2816, .f32⟩
  | 112 => ⟨S8192x2816, .f32⟩
  | 113 => ⟨S8192x2816, .f32⟩
  | 114 => ⟨S8192x2048, .f32⟩
  | 115 => ⟨S8192x1, .f32⟩
  | 116 => ⟨S8192x2048, .f32⟩
  | 117 => ⟨S8192x2048, .f32⟩
  | 118 => ⟨S8192x2048, .f32⟩
  | 119 => ⟨S1x2048x5632, .bf16⟩
  | 120 => ⟨S2048x5632, .bf16⟩
  | 121 => ⟨S2048x5632, .f32⟩
  | 122 => ⟨S1x2816x2048, .bf16⟩
  | 123 => ⟨S2816x2048, .bf16⟩
  | 124 => ⟨S2816x2048, .f32⟩
  | 125 => ⟨S8192x5632, .f32⟩
  | 126 => ⟨S8192x2816, .f32⟩
  | 127 => ⟨S8192x2816, .f32⟩
  | _ => ⟨S8192x2048, .f32⟩

abbrev hbmTy0_1 (i : Nat) : BufTy := match i % 128 with
  | 0 => ⟨S8192x2816, .f32⟩
  | 1 => ⟨S8192x2816, .f32⟩
  | 2 => ⟨S_, .f32⟩
  | 3 => ⟨S8192x2816, .f32⟩
  | 4 => ⟨S8192x2816, .f32⟩
  | 5 => ⟨S_, .f32⟩
  | 6 => ⟨S8192x2816, .f32⟩
  | 7 => ⟨S8192x2816, .f32⟩
  | 8 => ⟨S8192x2816, .f32⟩
  | 9 => ⟨S8192x2816, .f32⟩
  | 10 => ⟨S8192x2048, .f32⟩
  | 11 => ⟨S8192x1, .f32⟩
  | 12 => ⟨S8192x2048, .f32⟩
  | 13 => ⟨S8192x2048, .f32⟩
  | 14 => ⟨S8192x2048, .f32⟩
  | 15 => ⟨S1x2048x5632, .bf16⟩
  | 16 => ⟨S2048x5632, .bf16⟩
  | 17 => ⟨S2048x5632, .f32⟩
  | 18 => ⟨S1x2816x2048, .bf16⟩
  | 19 => ⟨S2816x2048, .bf16⟩
  | 20 => ⟨S2816x2048, .f32⟩
  | 21 => ⟨S8192x5632, .f32⟩
  | 22 => ⟨S8192x2816, .f32⟩
  | 23 => ⟨S8192x2816, .f32⟩
  | 24 => ⟨S8192x2816, .f32⟩
  | 25 => ⟨S8192x2816, .f32⟩
  | 26 => ⟨S_, .f32⟩
  | 27 => ⟨S8192x2816, .f32⟩
  | 28 => ⟨S8192x2816, .f32⟩
  | 29 => ⟨S_, .f32⟩
  | 30 => ⟨S8192x2816, .f32⟩
  | 31 => ⟨S8192x2816, .f32⟩
  | 32 => ⟨S8192x2816, .f32⟩
  | 33 => ⟨S8192x2816, .f32⟩
  | 34 => ⟨S8192x2048, .f32⟩
  | 35 => ⟨S8192x1, .f32⟩
  | 36 => ⟨S8192x2048, .f32⟩
  | 37 => ⟨S8192x2048, .f32⟩
  | 38 => ⟨S8192x2048, .f32⟩
  | 39 => ⟨S1x2048x5632, .bf16⟩
  | 40 => ⟨S2048x5632, .bf16⟩
  | 41 => ⟨S2048x5632, .f32⟩
  | 42 => ⟨S1x2816x2048, .bf16⟩
  | 43 => ⟨S2816x2048, .bf16⟩
  | 44 => ⟨S2816x2048, .f32⟩
  | 45 => ⟨S8192x5632, .f32⟩
  | 46 => ⟨S8192x2816, .f32⟩
  | 47 => ⟨S8192x2816, .f32⟩
  | 48 => ⟨S8192x2816, .f32⟩
  | 49 => ⟨S8192x2816, .f32⟩
  | 50 => ⟨S_, .f32⟩
  | 51 => ⟨S8192x2816, .f32⟩
  | 52 => ⟨S8192x2816, .f32⟩
  | 53 => ⟨S_, .f32⟩
  | 54 => ⟨S8192x2816, .f32⟩
  | 55 => ⟨S8192x2816, .f32⟩
  | 56 => ⟨S8192x2816, .f32⟩
  | 57 => ⟨S8192x2816, .f32⟩
  | 58 => ⟨S8192x2048, .f32⟩
  | 59 => ⟨S8192x1, .f32⟩
  | 60 => ⟨S8192x2048, .f32⟩
  | 61 => ⟨S8192x2048, .f32⟩
  | 62 => ⟨S8192x2048, .f32⟩
  | 63 => ⟨S1x2048x5632, .bf16⟩
  | 64 => ⟨S2048x5632, .bf16⟩
  | 65 => ⟨S2048x5632, .f32⟩
  | 66 => ⟨S1x2816x2048, .bf16⟩
  | 67 => ⟨S2816x2048, .bf16⟩
  | 68 => ⟨S2816x2048, .f32⟩
  | 69 => ⟨S8192x5632, .f32⟩
  | 70 => ⟨S8192x2816, .f32⟩
  | 71 => ⟨S8192x2816, .f32⟩
  | 72 => ⟨S8192x2816, .f32⟩
  | 73 => ⟨S8192x2816, .f32⟩
  | 74 => ⟨S_, .f32⟩
  | 75 => ⟨S8192x2816, .f32⟩
  | 76 => ⟨S8192x2816, .f32⟩
  | 77 => ⟨S_, .f32⟩
  | 78 => ⟨S8192x2816, .f32⟩
  | 79 => ⟨S8192x2816, .f32⟩
  | 80 => ⟨S8192x2816, .f32⟩
  | 81 => ⟨S8192x2816, .f32⟩
  | 82 => ⟨S8192x2048, .f32⟩
  | 83 => ⟨S8192x1, .f32⟩
  | 84 => ⟨S8192x2048, .f32⟩
  | 85 => ⟨S8192x2048, .f32⟩
  | 86 => ⟨S8192x2048, .f32⟩
  | 87 => ⟨S8192x2048, .f32⟩
  | 88 => ⟨S8192x2048, .f32⟩
  | 89 => ⟨S_, .f32⟩
  | 90 => ⟨S8192, .f32⟩
  | 91 => ⟨S8192x1, .f32⟩
  | 92 => ⟨S_, .f32⟩
  | 93 => ⟨S8192x1, .f32⟩
  | 94 => ⟨S8192x1, .f32⟩
  | 95 => ⟨S_, .f32⟩
  | 96 => ⟨S8192x1, .f32⟩
  | 97 => ⟨S8192x1, .f32⟩
  | 98 => ⟨S8192x1, .f32⟩
  | 99 => ⟨S8192x2048, .f32⟩
  | 100 => ⟨S8192x2048, .f32⟩
  | 101 => ⟨S8192x2048, .f32⟩
  | 102 => ⟨S8192x2048, .f32⟩
  | _ => ⟨S8192x2048, .f32⟩

abbrev hbmTy (i : Nat) : BufTy := match i / 128 with
  | 0 => hbmTy0_0 i
  | 1 => hbmTy0_1 i
  | _ => ⟨S8192x2048, .f32⟩

abbrev bufTy : (tb : Table) → Fin (tcTables nBuf tb) → BufTy
  | .hbm, ⟨i, _⟩ => hbmTy i
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_call0_v0 : Ref sig .tc := ⟨.hbm, 32, rfl⟩
abbrev main_call0_v1 : Ref sig .tc := ⟨.hbm, 33, rfl⟩
abbrev main_call0_cst : Ref sig .tc := ⟨.hbm, 34, rfl⟩
abbrev main_call0_v2 : Ref sig .tc := ⟨.hbm, 35, rfl⟩
abbrev main_call0_v3 : Ref sig .tc := ⟨.hbm, 36, rfl⟩
abbrev main_call0_cst_0 : Ref sig .tc := ⟨.hbm, 37, rfl⟩
abbrev main_call0_v4 : Ref sig .tc := ⟨.hbm, 38, rfl⟩
abbrev main_call0_v5 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_call1_v0 : Ref sig .tc := ⟨.hbm, 56, rfl⟩
abbrev main_call1_v1 : Ref sig .tc := ⟨.hbm, 57, rfl⟩
abbrev main_call1_cst : Ref sig .tc := ⟨.hbm, 58, rfl⟩
abbrev main_call1_v2 : Ref sig .tc := ⟨.hbm, 59, rfl⟩
abbrev main_call1_v3 : Ref sig .tc := ⟨.hbm, 60, rfl⟩
abbrev main_call1_cst_0 : Ref sig .tc := ⟨.hbm, 61, rfl⟩
abbrev main_call1_v4 : Ref sig .tc := ⟨.hbm, 62, rfl⟩
abbrev main_call1_v5 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_call2_v0 : Ref sig .tc := ⟨.hbm, 80, rfl⟩
abbrev main_call2_v1 : Ref sig .tc := ⟨.hbm, 81, rfl⟩
abbrev main_call2_cst : Ref sig .tc := ⟨.hbm, 82, rfl⟩
abbrev main_call2_v2 : Ref sig .tc := ⟨.hbm, 83, rfl⟩
abbrev main_call2_v3 : Ref sig .tc := ⟨.hbm, 84, rfl⟩
abbrev main_call2_cst_0 : Ref sig .tc := ⟨.hbm, 85, rfl⟩
abbrev main_call2_v4 : Ref sig .tc := ⟨.hbm, 86, rfl⟩
abbrev main_call2_v5 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_call3_v0 : Ref sig .tc := ⟨.hbm, 104, rfl⟩
abbrev main_call3_v1 : Ref sig .tc := ⟨.hbm, 105, rfl⟩
abbrev main_call3_cst : Ref sig .tc := ⟨.hbm, 106, rfl⟩
abbrev main_call3_v2 : Ref sig .tc := ⟨.hbm, 107, rfl⟩
abbrev main_call3_v3 : Ref sig .tc := ⟨.hbm, 108, rfl⟩
abbrev main_call3_cst_0 : Ref sig .tc := ⟨.hbm, 109, rfl⟩
abbrev main_call3_v4 : Ref sig .tc := ⟨.hbm, 110, rfl⟩
abbrev main_call3_v5 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_call4_v0 : Ref sig .tc := ⟨.hbm, 128, rfl⟩
abbrev main_call4_v1 : Ref sig .tc := ⟨.hbm, 129, rfl⟩
abbrev main_call4_cst : Ref sig .tc := ⟨.hbm, 130, rfl⟩
abbrev main_call4_v2 : Ref sig .tc := ⟨.hbm, 131, rfl⟩
abbrev main_call4_v3 : Ref sig .tc := ⟨.hbm, 132, rfl⟩
abbrev main_call4_cst_0 : Ref sig .tc := ⟨.hbm, 133, rfl⟩
abbrev main_call4_v4 : Ref sig .tc := ⟨.hbm, 134, rfl⟩
abbrev main_call4_v5 : Ref sig .tc := ⟨.hbm, 135, rfl⟩
abbrev main_v86 : Ref sig .tc := ⟨.hbm, 136, rfl⟩
abbrev main_v87 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_v91 : Ref sig .tc := ⟨.hbm, 141, rfl⟩
abbrev main_v92 : Ref sig .tc := ⟨.hbm, 142, rfl⟩
abbrev main_v93 : Ref sig .tc := ⟨.hbm, 143, rfl⟩
abbrev main_v94 : Ref sig .tc := ⟨.hbm, 144, rfl⟩
abbrev main_v95 : Ref sig .tc := ⟨.hbm, 145, rfl⟩
abbrev main_v96 : Ref sig .tc := ⟨.hbm, 146, rfl⟩
abbrev main_v97 : Ref sig .tc := ⟨.hbm, 147, rfl⟩
abbrev main_v98 : Ref sig .tc := ⟨.hbm, 148, rfl⟩
abbrev main_v99 : Ref sig .tc := ⟨.hbm, 149, rfl⟩
abbrev main_v100 : Ref sig .tc := ⟨.hbm, 150, rfl⟩
abbrev main_v101 : Ref sig .tc := ⟨.hbm, 151, rfl⟩
abbrev main_call5_v0 : Ref sig .tc := ⟨.hbm, 152, rfl⟩
abbrev main_call5_v1 : Ref sig .tc := ⟨.hbm, 153, rfl⟩
abbrev main_call5_cst : Ref sig .tc := ⟨.hbm, 154, rfl⟩
abbrev main_call5_v2 : Ref sig .tc := ⟨.hbm, 155, rfl⟩
abbrev main_call5_v3 : Ref sig .tc := ⟨.hbm, 156, rfl⟩
abbrev main_call5_cst_0 : Ref sig .tc := ⟨.hbm, 157, rfl⟩
abbrev main_call5_v4 : Ref sig .tc := ⟨.hbm, 158, rfl⟩
abbrev main_call5_v5 : Ref sig .tc := ⟨.hbm, 159, rfl⟩
abbrev main_v102 : Ref sig .tc := ⟨.hbm, 160, rfl⟩
abbrev main_v103 : Ref sig .tc := ⟨.hbm, 161, rfl⟩
abbrev main_v104 : Ref sig .tc := ⟨.hbm, 162, rfl⟩
abbrev main_v105 : Ref sig .tc := ⟨.hbm, 163, rfl⟩
abbrev main_v106 : Ref sig .tc := ⟨.hbm, 164, rfl⟩
abbrev main_v107 : Ref sig .tc := ⟨.hbm, 165, rfl⟩
abbrev main_v108 : Ref sig .tc := ⟨.hbm, 166, rfl⟩
abbrev main_v109 : Ref sig .tc := ⟨.hbm, 167, rfl⟩
abbrev main_v110 : Ref sig .tc := ⟨.hbm, 168, rfl⟩
abbrev main_v111 : Ref sig .tc := ⟨.hbm, 169, rfl⟩
abbrev main_v112 : Ref sig .tc := ⟨.hbm, 170, rfl⟩
abbrev main_v113 : Ref sig .tc := ⟨.hbm, 171, rfl⟩
abbrev main_v114 : Ref sig .tc := ⟨.hbm, 172, rfl⟩
abbrev main_v115 : Ref sig .tc := ⟨.hbm, 173, rfl⟩
abbrev main_v116 : Ref sig .tc := ⟨.hbm, 174, rfl⟩
abbrev main_v117 : Ref sig .tc := ⟨.hbm, 175, rfl⟩
abbrev main_call6_v0 : Ref sig .tc := ⟨.hbm, 176, rfl⟩
abbrev main_call6_v1 : Ref sig .tc := ⟨.hbm, 177, rfl⟩
abbrev main_call6_cst : Ref sig .tc := ⟨.hbm, 178, rfl⟩
abbrev main_call6_v2 : Ref sig .tc := ⟨.hbm, 179, rfl⟩
abbrev main_call6_v3 : Ref sig .tc := ⟨.hbm, 180, rfl⟩
abbrev main_call6_cst_0 : Ref sig .tc := ⟨.hbm, 181, rfl⟩
abbrev main_call6_v4 : Ref sig .tc := ⟨.hbm, 182, rfl⟩
abbrev main_call6_v5 : Ref sig .tc := ⟨.hbm, 183, rfl⟩
abbrev main_v118 : Ref sig .tc := ⟨.hbm, 184, rfl⟩
abbrev main_v119 : Ref sig .tc := ⟨.hbm, 185, rfl⟩
abbrev main_v120 : Ref sig .tc := ⟨.hbm, 186, rfl⟩
abbrev main_v121 : Ref sig .tc := ⟨.hbm, 187, rfl⟩
abbrev main_v122 : Ref sig .tc := ⟨.hbm, 188, rfl⟩
abbrev main_v123 : Ref sig .tc := ⟨.hbm, 189, rfl⟩
abbrev main_v124 : Ref sig .tc := ⟨.hbm, 190, rfl⟩
abbrev main_v125 : Ref sig .tc := ⟨.hbm, 191, rfl⟩
abbrev main_v126 : Ref sig .tc := ⟨.hbm, 192, rfl⟩
abbrev main_v127 : Ref sig .tc := ⟨.hbm, 193, rfl⟩
abbrev main_v128 : Ref sig .tc := ⟨.hbm, 194, rfl⟩
abbrev main_v129 : Ref sig .tc := ⟨.hbm, 195, rfl⟩
abbrev main_v130 : Ref sig .tc := ⟨.hbm, 196, rfl⟩
abbrev main_v131 : Ref sig .tc := ⟨.hbm, 197, rfl⟩
abbrev main_v132 : Ref sig .tc := ⟨.hbm, 198, rfl⟩
abbrev main_v133 : Ref sig .tc := ⟨.hbm, 199, rfl⟩
abbrev main_call7_v0 : Ref sig .tc := ⟨.hbm, 200, rfl⟩
abbrev main_call7_v1 : Ref sig .tc := ⟨.hbm, 201, rfl⟩
abbrev main_call7_cst : Ref sig .tc := ⟨.hbm, 202, rfl⟩
abbrev main_call7_v2 : Ref sig .tc := ⟨.hbm, 203, rfl⟩
abbrev main_call7_v3 : Ref sig .tc := ⟨.hbm, 204, rfl⟩
abbrev main_call7_cst_0 : Ref sig .tc := ⟨.hbm, 205, rfl⟩
abbrev main_call7_v4 : Ref sig .tc := ⟨.hbm, 206, rfl⟩
abbrev main_call7_v5 : Ref sig .tc := ⟨.hbm, 207, rfl⟩
abbrev main_v134 : Ref sig .tc := ⟨.hbm, 208, rfl⟩
abbrev main_v135 : Ref sig .tc := ⟨.hbm, 209, rfl⟩
abbrev main_v136 : Ref sig .tc := ⟨.hbm, 210, rfl⟩
abbrev main_v137 : Ref sig .tc := ⟨.hbm, 211, rfl⟩
abbrev main_v138 : Ref sig .tc := ⟨.hbm, 212, rfl⟩
abbrev main_v139 : Ref sig .tc := ⟨.hbm, 213, rfl⟩
abbrev main_v140 : Ref sig .tc := ⟨.hbm, 214, rfl⟩
abbrev main_v141 : Ref sig .tc := ⟨.hbm, 215, rfl⟩
abbrev main_v142 : Ref sig .tc := ⟨.hbm, 216, rfl⟩
abbrev main_cst_3 : Ref sig .tc := ⟨.hbm, 217, rfl⟩
abbrev main_v143 : Ref sig .tc := ⟨.hbm, 218, rfl⟩
abbrev main_v144 : Ref sig .tc := ⟨.hbm, 219, rfl⟩
abbrev main_cst_4 : Ref sig .tc := ⟨.hbm, 220, rfl⟩
abbrev main_v145 : Ref sig .tc := ⟨.hbm, 221, rfl⟩
abbrev main_v146 : Ref sig .tc := ⟨.hbm, 222, rfl⟩
abbrev main_cst_5 : Ref sig .tc := ⟨.hbm, 223, rfl⟩
abbrev main_v147 : Ref sig .tc := ⟨.hbm, 224, rfl⟩
abbrev main_v148 : Ref sig .tc := ⟨.hbm, 225, rfl⟩
abbrev main_v149 : Ref sig .tc := ⟨.hbm, 226, rfl⟩
abbrev main_v150 : Ref sig .tc := ⟨.hbm, 227, rfl⟩
abbrev main_v151 : Ref sig .tc := ⟨.hbm, 228, rfl⟩
abbrev main_v152 : Ref sig .tc := ⟨.hbm, 229, rfl⟩
abbrev main_v153 : Ref sig .tc := ⟨.hbm, 230, rfl⟩

abbrev nD : Nat := 1
abbrev τ : Topo := Topo.v7x

variable {F : FTy → Type} [FloatOps F]
-- ==== Kernel3.lean ====
abbrev S8192x2048 : Shape := ⟨2, ![8192, 2048]⟩
abbrev S1x2048 : Shape := ⟨2, ![1, 2048]⟩
abbrev S2048x11264 : Shape := ⟨2, ![2048, 11264]⟩
abbrev S5632x2048 : Shape := ⟨2, ![5632, 2048]⟩
abbrev S512x2048 : Shape := ⟨2, ![512, 2048]⟩
abbrev S2048x512 : Shape := ⟨2, ![2048, 512]⟩
abbrev S512 : Shape := ⟨1, ![512]⟩
abbrev S512x1 : Shape := ⟨2, ![512, 1]⟩
abbrev S512x512 : Shape := ⟨2, ![512, 512]⟩

abbrev nBuf : Space → Nat
  | .hbm => 5
  | .vmem => 12
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S2048x11264, .bf16⟩
  | .hbm, ⟨3, _⟩ => ⟨S5632x2048, .bf16⟩
  | .hbm, ⟨4, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S512x2048, .bf16⟩
  | .local _ .vmem, ⟨8, _⟩ => ⟨S512x2048, .bf16⟩
  | .local _ .vmem, ⟨9, _⟩ => ⟨S512x2048, .f32⟩
  | .local _ .vmem, ⟨10, _⟩ => ⟨S512x2048, .f32⟩
  | .local _ .vmem, ⟨11, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![16, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference3Ideal.lean ====
abbrev S8192x2048 : Shape := ⟨2, ![8192, 2048]⟩
abbrev S1x2048 : Shape := ⟨2, ![1, 2048]⟩
abbrev S2048x11264 : Shape := ⟨2, ![2048, 11264]⟩
abbrev S5632x2048 : Shape := ⟨2, ![5632, 2048]⟩
abbrev S_ : Shape := ⟨0, ![]⟩
abbrev S8192 : Shape := ⟨1, ![8192]⟩
abbrev S8192x1 : Shape := ⟨2, ![8192, 1]⟩
abbrev S8192x11264 : Shape := ⟨2, ![8192, 11264]⟩
abbrev S8192x5632 : Shape := ⟨2, ![8192, 5632]⟩

abbrev nBuf : Space → Nat
  | .hbm => 36
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S2048x11264, .bf16⟩
  | .hbm, ⟨3, _⟩ => ⟨S5632x2048, .bf16⟩
  | .hbm, ⟨4, _⟩ => ⟨S8192x2048, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x2048, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S2048x11264, .f32⟩
  | .hbm, ⟨20, _⟩ => ⟨S5632x2048, .f32⟩
  | .hbm, ⟨21, _⟩ => ⟨S8192x11264, .f32⟩
  | .hbm, ⟨22, _⟩ => ⟨S8192x5632, .f32⟩
  | .hbm, ⟨23, _⟩ => ⟨S8192x5632, .f32⟩
  | .hbm, ⟨24, _⟩ => ⟨S8192x5632, .f32⟩
  | .hbm, ⟨25, _⟩ => ⟨S8192x5632, .f32⟩
  | .hbm, ⟨26, _⟩ => ⟨S_, .f32⟩
  | .hbm, ⟨27, _⟩ => ⟨S8192x5632, .f32⟩
  | .hbm, ⟨28, _⟩ => ⟨S8192x5632, .f32⟩
  | .hbm, ⟨29, _⟩ => ⟨S_, .f32⟩
  | .hbm, ⟨30, _⟩ => ⟨S8192x5632, .f32⟩
  | .hbm, ⟨31, _⟩ => ⟨S8192x5632, .f32⟩
  | .hbm, ⟨32, _⟩ => ⟨S8192x5632, .f32⟩
  | .hbm, ⟨33, _⟩ => ⟨S8192x5632, .f32⟩
  | .hbm, ⟨34, _⟩ => ⟨S8192x2048, .f32⟩
  | .hbm, ⟨35, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩

abbrev nD : Nat := 1
abbrev τ : Topo := Topo.v7x

variable {F : FTy → Type} [FloatOps F]
-- ==== Kernel4.lean ====
abbrev S2x4096x2048 : Shape := ⟨3, ![2, 4096, 2048]⟩
abbrev S1x2048 : Shape := ⟨2, ![1, 2048]⟩
abbrev S1x2048x2112 : Shape := ⟨3, ![1, 2048, 2112]⟩
abbrev S1x512 : Shape := ⟨2, ![1, 512]⟩
abbrev S8192x2048 : Shape := ⟨2, ![8192, 2048]⟩
abbrev S4096 : Shape := ⟨1, ![4096]⟩
abbrev S1x4096 : Shape := ⟨2, ![1, 4096]⟩
abbrev S2x4096 : Shape := ⟨2, ![2, 4096]⟩
abbrev S8192 : Shape := ⟨1, ![8192]⟩
abbrev S32 : Shape := ⟨1, ![32]⟩
abbrev S_ : Shape := ⟨0, ![]⟩
abbrev S8192x1 : Shape := ⟨2, ![8192, 1]⟩
abbrev S1x32 : Shape := ⟨2, ![1, 32]⟩
abbrev S8192x32 : Shape := ⟨2, ![8192, 32]⟩
abbrev S8192x64 : Shape := ⟨2, ![8192, 64]⟩
abbrev S8192x128 : Shape := ⟨2, ![8192, 128]⟩
abbrev S2048x2112 : Shape := ⟨2, ![2048, 2112]⟩
abbrev S2048x64 : Shape := ⟨2, ![2048, 64]⟩
abbrev S2048x2048 : Shape := ⟨2, ![2048, 2048]⟩
abbrev S2048x128 : Shape := ⟨2, ![2048, 128]⟩
abbrev S2048x32 : Shape := ⟨2, ![2048, 32]⟩
abbrev S2048x2304 : Shape := ⟨2, ![2048, 2304]⟩
abbrev S2048 : Shape := ⟨1, ![2048]⟩
abbrev S512 : Shape := ⟨1, ![512]⟩
abbrev S8192x1024 : Shape := ⟨2, ![8192, 1024]⟩
abbrev S8192x512 : Shape := ⟨2, ![8192, 512]⟩
abbrev S8192x640 : Shape := ⟨2, ![8192, 640]⟩
abbrev S512x2048 : Shape := ⟨2, ![512, 2048]⟩
abbrev S512x128 : Shape := ⟨2, ![512, 128]⟩
abbrev S512x1024 : Shape := ⟨2, ![512, 1024]⟩
abbrev S512x512 : Shape := ⟨2, ![512, 512]⟩
abbrev S512x64 : Shape := ⟨2, ![512, 64]⟩
abbrev S512x640 : Shape := ⟨2, ![512, 640]⟩
abbrev S512x1 : Shape := ⟨2, ![512, 1]⟩
abbrev S512x2304 : Shape := ⟨2, ![512, 2304]⟩

abbrev nBuf : Space → Nat
  | .hbm => 62
  | .vmem => 20
  | .smem => 0
  | _ => 0

abbrev bufTy : (tb : Table) → Fin (tcTables nBuf tb) → BufTy
  | .hbm, ⟨0, _⟩ => ⟨S2x4096x2048, .f32⟩
  | .hbm, ⟨1, _⟩ => ⟨S1x2048, .f32⟩
  | .hbm, ⟨2, _⟩ => ⟨S1x2048x2112, .f32⟩
  | .hbm, ⟨3, _⟩ => ⟨S1x512, .f32⟩
  | .hbm, ⟨4, _⟩ => ⟨S1x512, .f32⟩
  | .hbm, ⟨5, _⟩ => ⟨S8192x2048, .f32⟩
  | .hbm, ⟨6, _⟩ => ⟨S4096, .i32⟩
  | .hbm, ⟨7, _⟩ => ⟨S1x4096, .i32⟩
  | .hbm, ⟨8, _⟩ => ⟨S2x4096, .i32⟩
  | .hbm, ⟨9, _⟩ => ⟨S8192, .i32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S32, .f32⟩
  | .hbm, ⟨18, _⟩ => ⟨S_, .f32⟩
  | .hbm, ⟨19, _⟩ => ⟨S32, .f32⟩
  | .hbm, ⟨20, _⟩ => ⟨S32, .f32⟩
  | .hbm, ⟨21, _⟩ => ⟨S_, .f32⟩
  | .hbm, ⟨22, _⟩ => ⟨S32, .f32⟩
  | .hbm, ⟨23, _⟩ => ⟨S32, .f32⟩
  | .hbm, ⟨24, _⟩ => ⟨S8192, .f32⟩
  | .hbm, ⟨25, _⟩ => ⟨S8192x1, .f32⟩
  | .hbm, ⟨26, _⟩ => ⟨S1x32, .f32⟩
  | .hbm, ⟨27, _⟩ => ⟨S8192x32, .f32⟩
  | .hbm, ⟨28, _⟩ => ⟨S8192x32, .f32⟩
  | .hbm, ⟨29, _⟩ => ⟨S8192x32, .f32⟩
  | .hbm, ⟨30, _⟩ => ⟨S_, .f32⟩
  | .hbm, ⟨31, _⟩ => ⟨S8192x64, .f32⟩
  | .hbm, ⟨32, _⟩ => ⟨S8192x32, .f32⟩
  | .hbm, ⟨33, _⟩ => ⟨S8192x32, .f32⟩
  | .hbm, ⟨34, _⟩ => ⟨S8192x128, .f32⟩
  | .hbm, ⟨35, _⟩ => ⟨S8192x128, .f32⟩
  | .hbm, ⟨36, _⟩ => ⟨S2048x2112, .f32⟩
  | .hbm, ⟨37, _⟩ => ⟨S2048x64, .f32⟩
  | .hbm, ⟨38, _⟩ => ⟨S2048x2048, .f32⟩
  | .hbm, ⟨39, _⟩ => ⟨S_, .i32⟩
  | .hbm, ⟨40, _⟩ => ⟨S_, .f32⟩
  | .hbm, ⟨41, _⟩ => ⟨S2048x128, .f32⟩
  | .hbm, ⟨42, _⟩ => ⟨S2048x32, .f32⟩
  | .hbm, ⟨43, _⟩ => ⟨S2048x32, .f32⟩
  | .hbm, ⟨44, _⟩ => ⟨S2048x32, .f32⟩
  | .hbm, ⟨45, _⟩ => ⟨S2048x64, .f32⟩
  | .hbm, ⟨46, _⟩ => ⟨S_, .i32⟩
  | .hbm, ⟨47, _⟩ => ⟨S_, .f32⟩
  | .hbm, ⟨48, _⟩ => ⟨S2048x128, .f32⟩
  | .hbm, ⟨49, _⟩ => ⟨S2048x2304, .f32⟩
  | .hbm, ⟨50, _⟩ => ⟨S2048x2304, .bf16⟩
  | .hbm, ⟨51, _⟩ => ⟨S2048, .f32⟩
  | .hbm, ⟨52, _⟩ => ⟨S1x2048, .f32⟩
  | .hbm, ⟨53, _⟩ => ⟨S512, .f32⟩
  | .hbm, ⟨54, _⟩ => ⟨S1x512, .f32⟩
  | .hbm, ⟨55, _⟩ => ⟨S512, .f32⟩
  | .hbm, ⟨56, _⟩ => ⟨S1x512, .f32⟩
  | .hbm, ⟨57, _⟩ => ⟨S8192x1024, .f32⟩
  | .hbm, ⟨58, _⟩ => ⟨S8192x512, .bf16⟩
  | .hbm, ⟨59, _⟩ => ⟨S8192x512, .f32⟩
  | .hbm, ⟨60, _⟩ => ⟨S8192x64, .f32⟩
  | .hbm, ⟨61, _⟩ => ⟨S8192x640, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x2304, .bf16⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S1x512, .f32⟩
  | .local _ .vmem, ⟨9, _⟩ => ⟨S1x512, .f32⟩
  | .local _ .vmem, ⟨10, _⟩ => ⟨S512x1024, .f32⟩
  | .local _ .vmem, ⟨11, _⟩ => ⟨S512x1024, .f32⟩
  | .local _ .vmem, ⟨12, _⟩ => ⟨S512x512, .bf16⟩
  | .local _ .vmem, ⟨13, _⟩ => ⟨S512x512, .bf16⟩
  | .local _ .vmem, ⟨14, _⟩ => ⟨S512x512, .f32⟩
  | .local _ .vmem, ⟨15, _⟩ => ⟨S512x512, .f32⟩
  | .local _ .vmem, ⟨16, _⟩ => ⟨S512x64, .f32⟩
  | .local _ .vmem, ⟨17, _⟩ => ⟨S512x64, .f32⟩
  | .local _ .vmem, ⟨18, _⟩ => ⟨S512x640, .bf16⟩
  | .local _ .vmem, ⟨19, _⟩ => ⟨S512x640, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_c : Ref sig .tc := ⟨.hbm, 39, rfl⟩
abbrev main_call0_v0 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_c_4 : Ref sig .tc := ⟨.hbm, 46, rfl⟩
abbrev main_call1_v0 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43_0 : Ref sig .tc := ⟨.hbm, 57, rfl⟩
abbrev main_v43_1 : Ref sig .tc := ⟨.hbm, 58, rfl⟩
abbrev main_v43_2 : Ref sig .tc := ⟨.hbm, 59, rfl⟩
abbrev main_v43_3 : Ref sig .tc := ⟨.hbm, 60, rfl⟩
abbrev main_v43_4 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x2304 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x640 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference4Ideal.lean ====
abbrev S2x4096x2048 : Shape := ⟨3, ![2, 4096, 2048]⟩
abbrev S1x2048 : Shape := ⟨2, ![1, 2048]⟩
abbrev S1x2048x2112 : Shape := ⟨3, ![1, 2048, 2112]⟩
abbrev S1x512 : Shape := ⟨2, ![1, 512]⟩
abbrev S2048 : Shape := ⟨1, ![2048]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S2048x2112 : Shape := ⟨2, ![2048, 2112]⟩
abbrev S2x4096x2112 : Shape := ⟨3, ![2, 4096, 2112]⟩
abbrev S2x4096x1024 : Shape := ⟨3, ![2, 4096, 1024]⟩
abbrev S2x4096x512 : Shape := ⟨3, ![2, 4096, 512]⟩
abbrev S2x4096x64 : Shape := ⟨3, ![2, 4096, 64]⟩
abbrev S4096 : Shape := ⟨1, ![4096]⟩
abbrev S32 : Shape := ⟨1, ![32]⟩
abbrev S4096x1 : Shape := ⟨2, ![4096, 1]⟩
abbrev S1x32 : Shape := ⟨2, ![1, 32]⟩
abbrev S4096x32 : Shape := ⟨2, ![4096, 32]⟩
abbrev S512 : Shape := ⟨1, ![512]⟩
abbrev S1x1x512 : Shape := ⟨3, ![1, 1, 512]⟩
abbrev S2x4096x32 : Shape := ⟨3, ![2, 4096, 32]⟩
abbrev S1x4096x32 : Shape := ⟨3, ![1, 4096, 32]⟩
abbrev S2x4096x576 : Shape := ⟨3, ![2, 4096, 576]⟩
abbrev S2x4096x640 : Shape := ⟨3, ![2, 4096, 640]⟩
abbrev S8192x1024 : Shape := ⟨2, ![8192, 1024]⟩
abbrev S8192x512 : Shape := ⟨2, ![8192, 512]⟩
abbrev S8192x64 : Shape := ⟨2, ![8192, 64]⟩
abbrev S8192x640 : Shape := ⟨2, ![8192, 640]⟩

abbrev nBuf : Space → Nat
  | .hbm => 113
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S1x2048, .f32⟩
  | .hbm, ⟨2, _⟩ => ⟨S1x2048x2112, .f32⟩
  | .hbm, ⟨3, _⟩ => ⟨S1x512, .f32⟩
  | .hbm, ⟨4, _⟩ => ⟨S1x512, .f32⟩
  | .hbm, ⟨5, _⟩ => ⟨S2048, .f32⟩
  | .hbm, ⟨6, _⟩ => ⟨S2x4096x2048, .f32⟩
  | .hbm, ⟨7, _⟩ => ⟨S_, .f32⟩
  | .hbm, ⟨8, _⟩ => ⟨S2x4096, .f32⟩
  | .hbm, ⟨9, _⟩ => ⟨S2x4096x1, .f32⟩
  | .hbm, ⟨10, _⟩ => ⟨S_, .f32⟩
  | .hbm, ⟨11, _⟩ => ⟨S2x4096x1, .f32⟩
  | .hbm, ⟨12, _⟩ => ⟨S2x4096x1, .f32⟩
  | .hbm, ⟨13, _⟩ => ⟨S_, .f32⟩
  | .hbm, ⟨14, _⟩ => ⟨S2x4096x1, .f32⟩
  | .hbm, ⟨15, _⟩ => ⟨S2x4096x1, .f32⟩
  | .hbm, ⟨16, _⟩ => ⟨S2x4096x1, .f32⟩
  | .hbm, ⟨17, _⟩ => ⟨S2x4096x2048, .f32⟩
  | .hbm, ⟨18, _⟩ => ⟨S2x4096x2048, .f32⟩
  | .hbm, ⟨19, _⟩ => ⟨S1x1x2048, .f32⟩
  | .hbm, ⟨20, _⟩ => ⟨S2x4096x2048, .f32⟩
  | .hbm, ⟨21, _⟩ => ⟨S2x4096x2048, .f32⟩
  | .hbm, ⟨22, _⟩ => ⟨S2048x2112, .f32⟩
  | .hbm, ⟨23, _⟩ => ⟨S2x4096x2112, .f32⟩
  | .hbm, ⟨24, _⟩ => ⟨S2x4096x1024, .f32⟩
  | .hbm, ⟨25, _⟩ => ⟨S2x4096x512, .f32⟩
  | .hbm, ⟨26, _⟩ => ⟨S2x4096x512, .f32⟩
  | .hbm, ⟨27, _⟩ => ⟨S2x4096x64, .f32⟩
  | .hbm, ⟨28, _⟩ => ⟨S4096, .i32⟩
  | .hbm, ⟨29, _⟩ => ⟨S32, .f32⟩
  | .hbm, ⟨30, _⟩ => ⟨S_, .f32⟩
  | .hbm, ⟨31, _⟩ => ⟨S32, .f32⟩
  | .hbm, ⟨32, _⟩ => ⟨S32, .f32⟩
  | .hbm, ⟨33, _⟩ => ⟨S_, .f32⟩
  | .hbm, ⟨34, _⟩ => ⟨S32, .f32⟩
  | .hbm, ⟨35, _⟩ => ⟨S32, .f32⟩
  | .hbm, ⟨36, _⟩ => ⟨S32, .f32⟩
  | .hbm, ⟨37, _⟩ => ⟨S_, .f32⟩
  | .hbm, ⟨38, _⟩ => ⟨S32, .f32⟩
  | .hbm, ⟨39, _⟩ => ⟨S32, .f32⟩
  | .hbm, ⟨40, _⟩ => ⟨S_, .f32⟩
  | .hbm, ⟨41, _⟩ => ⟨S32, .f32⟩
  | .hbm, ⟨42, _⟩ => ⟨S32, .f32⟩
  | .hbm, ⟨43, _⟩ => ⟨S4096, .f32⟩
  | .hbm, ⟨44, _⟩ => ⟨S4096x1, .f32⟩
  | .hbm, ⟨45, _⟩ => ⟨S1x32, .f32⟩
  | .hbm, ⟨46, _⟩ => ⟨S4096x32, .f32⟩
  | .hbm, ⟨47, _⟩ => ⟨S4096x32, .f32⟩
  | .hbm, ⟨48, _⟩ => ⟨S4096x32, .f32⟩
  | .hbm, ⟨49, _⟩ => ⟨S4096x32, .f32⟩
  | .hbm, ⟨50, _⟩ => ⟨S4096x32, .f32⟩
  | .hbm, ⟨51, _⟩ => ⟨S512, .f32⟩
  | .hbm, ⟨52, _⟩ => ⟨S2x4096x512, .f32⟩
  | .hbm, ⟨53, _⟩ => ⟨S_, .f32⟩
  | .hbm, ⟨54, _⟩ => ⟨S2x4096, .f32⟩
  | .hbm, ⟨55, _⟩ => ⟨S2x4096x1, .f32⟩
  | .hbm, ⟨56, _⟩ => ⟨S_, .f32⟩
  | .hbm, ⟨57, _⟩ => ⟨S2x4096x1, .f32⟩
  | .hbm, ⟨58, _⟩ => ⟨S2x4096x1, .f32⟩
  | .hbm, ⟨59, _⟩ => ⟨S_, .f32⟩
  | .hbm, ⟨60, _⟩ => ⟨S2x4096x1, .f32⟩
  | .hbm, ⟨61, _⟩ => ⟨S2x4096x1, .f32⟩
  | .hbm, ⟨62, _⟩ => ⟨S2x4096x1, .f32⟩
  | .hbm, ⟨63, _⟩ => ⟨S2x4096x512, .f32⟩
  | .hbm, ⟨64, _⟩ => ⟨S2x4096x512, .f32⟩
  | .hbm, ⟨65, _⟩ => ⟨S1x1x512, .f32⟩
  | .hbm, ⟨66, _⟩ => ⟨S2x4096x512, .f32⟩
  | .hbm, ⟨67, _⟩ => ⟨S2x4096x512, .f32⟩
  | .hbm, ⟨68, _⟩ => ⟨S2x4096x32, .f32⟩
  | .hbm, ⟨69, _⟩ => ⟨S2x4096x32, .f32⟩
  | .hbm, ⟨70, _⟩ => ⟨S1x4096x32, .f32⟩
  | .hbm, ⟨71, _⟩ => ⟨S2x4096x32, .f32⟩
  | .hbm, ⟨72, _⟩ => ⟨S2x4096x32, .f32⟩
  | .hbm, ⟨73, _⟩ => ⟨S1x4096x32, .f32⟩
  | .hbm, ⟨74, _⟩ => ⟨S2x4096x32, .f32⟩
  | .hbm, ⟨75, _⟩ => ⟨S2x4096x32, .f32⟩
  | .hbm, ⟨76, _⟩ => ⟨S2x4096x32, .f32⟩
  | .hbm, ⟨77, _⟩ => ⟨S1x4096x32, .f32⟩
  | .hbm, ⟨78, _⟩ => ⟨S2x4096x32, .f32⟩
  | .hbm, ⟨79, _⟩ => ⟨S2x4096x32, .f32⟩
  | .hbm, ⟨80, _⟩ => ⟨S1x4096x32, .f32⟩
  | .hbm, ⟨81, _⟩ => ⟨S2x4096x32, .f32⟩
  | .hbm, ⟨82, _⟩ => ⟨S2x4096x32, .f32⟩
  | .hbm, ⟨83, _⟩ => ⟨S2x4096x32, .f32⟩
  | .hbm, ⟨84, _⟩ => ⟨S2x4096x64, .f32⟩
  | .hbm, ⟨85, _⟩ => ⟨S2x4096x576, .f32⟩
  | .hbm, ⟨86, _⟩ => ⟨S_, .i32⟩
  | .hbm, ⟨87, _⟩ => ⟨S_, .f32⟩
  | .hbm, ⟨88, _⟩ => ⟨S2x4096x640, .f32⟩
  | .hbm, ⟨89, _⟩ => ⟨S8192x1024, .f32⟩
  | .hbm, ⟨90, _⟩ => ⟨S512, .f32⟩
  | .hbm, ⟨91, _⟩ => ⟨S2x4096x512, .f32⟩
  | .hbm, ⟨92, _⟩ => ⟨S_, .f32⟩
  | .hbm, ⟨93, _⟩ => ⟨S2x4096, .f32⟩
  | .hbm, ⟨94, _⟩ => ⟨S2x4096x1, .f32⟩
  | .hbm, ⟨95, _⟩ => ⟨S_, .f32⟩
  | .hbm, ⟨96, _⟩ => ⟨S2x4096x1, .f32⟩
  | .hbm, ⟨97, _⟩ => ⟨S2x4096x1, .f32⟩
  | .hbm, ⟨98, _⟩ => ⟨S_, .f32⟩
  | .hbm, ⟨99, _⟩ => ⟨S2x4096x1, .f32⟩
  | .hbm, ⟨100, _⟩ => ⟨S2x4096x1, .f32⟩
  | .hbm, ⟨101, _⟩ => ⟨S2x4096x1, .f32⟩
  | .hbm, ⟨102, _⟩ => ⟨S2x4096x512, .f32⟩
  | .hbm, ⟨103, _⟩ => ⟨S2x4096x512, .f32⟩
  | .hbm, ⟨104, _⟩ => ⟨S1x1x512, .f32⟩
  | .hbm, ⟨105, _⟩ => ⟨S2x4096x512, .f32⟩
  | .hbm, ⟨106, _⟩ => ⟨S2x4096x512, .f32⟩
  | .hbm, ⟨107, _⟩ => ⟨S8192x512, .f32⟩
  | .hbm, ⟨108, _⟩ => ⟨S8192x512, .bf16⟩
  | .hbm, ⟨109, _⟩ => ⟨S8192x512, .f32⟩
  | .hbm, ⟨110, _⟩ => ⟨S8192x64, .f32⟩
  | .hbm, ⟨111, _⟩ => ⟨S8192x640, .f32⟩
  | .hbm, ⟨112, _⟩ => ⟨S8192x640, .bf16⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_2 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_cst_6 : Ref sig .tc := ⟨.hbm, 53, rfl⟩
abbrev main_v41 : Ref sig .tc := ⟨.hbm, 54, rfl⟩
abbrev main_v42 : Ref sig .tc := ⟨.hbm, 55, rfl⟩
abbrev main_cst_7 : Ref sig .tc := ⟨.hbm, 56, rfl⟩
abbrev main_v43 : Ref sig .tc := ⟨.hbm, 57, rfl⟩
abbrev main_v44 : Ref sig .tc := ⟨.hbm, 58, rfl⟩
abbrev main_cst_8 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_c : Ref sig .tc := ⟨.hbm, 86, rfl⟩
abbrev main_call0_v0 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_cst_9 : Ref sig .tc := ⟨.hbm, 92, rfl⟩
abbrev main_v75 : Ref sig .tc := ⟨.hbm, 93, rfl⟩
abbrev main_v76 : Ref sig .tc := ⟨.hbm, 94, rfl⟩
abbrev main_cst_10 : Ref sig .tc := ⟨.hbm, 95, rfl⟩
abbrev main_v77 : Ref sig .tc := ⟨.hbm, 96, rfl⟩
abbrev main_v78 : Ref sig .tc := ⟨.hbm, 97, rfl⟩
abbrev main_cst_11 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩

abbrev nD : Nat := 1
abbrev τ : Topo := Topo.v7x

variable {F : FTy → Type} [FloatOps F]
-- ==== Proof.Flash.Points.lean ====
/- What the runs of the attention kernel share: the body's branch conditions in closed form over the grid points,
   the staging and scratch memrefs as the pipeline passes them, and the launch's invariant with the scratch named. -/
module

public import proofs.«01_k».proof.Proof.Gen.KernelIdeal.Frame
public import proofs.«01_k».proof.Proof.Gen.KernelIdeal.Skeleton
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Flash

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 2).val) 0#32)) 0#32) = 1#1
/-- It holds at the points ≡ 0 (mod 8) — by arithmetic of the point. -/
theorem hcond0_0 : ∀ t : Fin cfg0.N, cond0_0 (grid0.coords t) ↔ t.val % 8 = 0 :=
  (fun t => by
    have ht : t.val < 512 := Nat.lt_of_lt_of_eq t.isLt N_0
    have e0 : (grid0.coords t 0).val = t.val / 256 % 2 := Pipeline.Grid.coords_val t 0 (by decide) rfl
    have e1 : (grid0.coords t 1).val = t.val / 8 % 32 := Pipeline.Grid.coords_val t 1 (by decide) rfl
    have e2 : (grid0.coords t 2).val = t.val / 1 % 8 := Pipeline.Grid.coords_val t 2 (by decide) rfl
    simp only [cond0_0, e0, e1, e2]
    word_cmp
   : ∀ t : Fin grid0.N, cond0_0 (grid0.coords t) ↔ t.val % 8 = 0)

/-- The condition of the body's `scf.if` 1 (`k0_h2`), from the grid coordinates (the skeleton's scalar
    chain substituted). -/
abbrev cond0_1 (i : grid0.Coords) : Prop := (Scalar.cmpi .ne (Scalar.extui (Scalar.cmpi .sle (BitVec.ofNat 32 (i 2).val) (Scalar.select (Scalar.andi (Scalar.cmpi .ne (Scalar.subi (Scalar.extui (Scalar.cmpi .sgt (Scalar.subi (Scalar.addi (Scalar.muli (BitVec.ofNat 32 (i 1).val) 128#32) 128#32) 1#32) 0#32)) (Scalar.extui (Scalar.cmpi .slt (Scalar.subi (Scalar.addi (Scalar.muli (BitVec.ofNat 32 (i 1).val) 128#32) 128#32) 1#32) 0#32))) (Scalar.subi (Scalar.extui (Scalar.cmpi .sgt 512#32 0#32)) (Scalar.extui (Scalar.cmpi .slt 512#32 0#32)))) (Scalar.cmpi .ne (Scalar.remsi (Scalar.subi (Scalar.addi (Scalar.muli (BitVec.ofNat 32 (i 1).val) 128#32) 128#32) 1#32) 512#32) 0#32)) (Scalar.subi (Scalar.divsi (Scalar.subi (Scalar.addi (Scalar.muli (BitVec.ofNat 32 (i 1).val) 128#32) 128#32) 1#32) 512#32) 1#32) (Scalar.divsi (Scalar.subi (Scalar.addi (Scalar.muli (BitVec.ofNat 32 (i 1).val) 128#32) 128#32) 1#32) 512#32)))) 0#32) = 1#1
/-- It holds at the points whose coordinates have 4·i2 ≤ i1 — decided over the grid. -/
theorem hcond0_1 : ∀ t : Fin cfg0.N, cond0_1 (grid0.coords t) ↔ 4 * (t.val % 8) ≤ t.val / 8 % 32 :=
  (by decide +kernel : ∀ t : Fin grid0.N, cond0_1 (grid0.coords t) ↔ 4 * (t.val % 8) ≤ t.val / 8 % 32)

/-- The condition of the body's `scf.if` 2 (`k0_h3`), from the grid coordinates (the skeleton's scalar
    chain substituted). -/
abbrev cond0_2 (i : grid0.Coords) : Prop := k0_cond3 i = 1#1
/-- It holds at the points whose coordinates have 4·i2 ≤ i1 and i1 ≤ 4·i2 + 3 — decided over the grid. -/
theorem hcond0_2 : ∀ t : Fin cfg0.N, cond0_2 (grid0.coords t) ↔ (4 * (t.val % 8) ≤ t.val / 8 % 32 ∧ t.val / 8 % 32 ≤ 4 * (t.val % 8) + 3) :=
  (by decide +kernel : ∀ t : Fin grid0.N, cond0_2 (grid0.coords t) ↔ (4 * (t.val % 8) ≤ t.val / 8 % 32 ∧ t.val / 8 % 32 ≤ 4 * (t.val % 8) + 3))

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S16x128x640 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x640 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S16x512x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x2048 .bf16 := win0_3.stage (cfg0.slots t 3)
abbrev hs0_3 (t : Fin cfg0.N) : (ms0_3 t).IsWhole := hstage0_3 ((cfg0.slots t 3).cast nbuf0_3)
/-- The scratch operands: whole scoped buffers of the kernel's own, passed beside the windows. -/
abbrev scM0_0 : Memref sig .tc .vmem S2048x1 .f32 := Memref.whole cc0_scratch0
abbrev scM0_1 : Memref sig .tc .vmem S2048x1 .f32 := Memref.whole cc0_scratch1
abbrev scM0_2 : Memref sig .tc .vmem S2048x512 .f32 := Memref.whole cc0_scratch2
/-- The scratch `arg7` the kernel carries between points, as a view: what it holds is stated through it. -/
abbrev VS0_0 : View sig .tc .vmem S2048x1 .f32 := scM0_0.view
/-- The scratch `arg8` the kernel carries between points, as a view: what it holds is stated through it. -/
abbrev VS0_1 : View sig .tc .vmem S2048x1 .f32 := scM0_1.view
/-- The scratch `arg9` the kernel carries between points, as a view: what it holds is stated through it. -/
abbrev VS0_2 : View sig .tc .vmem S2048x512 .f32 := scM0_2.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.KernelIdeal.Flash

end
-- ==== Proof.Flash.Step.lean ====
/- One grid point of the attention kernel as a function of what the scratch and the output block hold: the running
   maximum, the running sum and the running weighted values are reset at the first key block, folded with the key block
   where it is needed, and turned into an output block at the last needed key block. -/
module

public import proofs.«01_k».proof.Proof.Flash.Points
public import Idealize.ShloMosaic.Lib.Pipeline.FrameBody
public import Idealize.ShloMosaic.Lib.Ring
public import Idealize.ShloMosaic.Lib.Pipeline.ValueKit
public import Idealize.ShloMosaic.Lib.VecWindow
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Flash

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- What the kernel carries from a grid point to the next: the output block, the running maximum, the running sum of
    the weights and the running weighted sum of the values. -/
structure Carry (F : FTy → Type) where
  o : Vec F S128x2048 .bf16
  m : Vec F S2048x1 .f32
  l : Vec F S2048x1 .f32
  a : Vec F S2048x512 .f32

/-- The query block's and the key block's number, as the body's words. -/
abbrev qw (i : grid0.Coords) : BitVec 32 := BitVec.ofNat 32 (i 1).val
abbrev kw (i : grid0.Coords) : BitVec 32 := BitVec.ofNat 32 (i 2).val

/-- At the first key block the running quantities start afresh. -/
def entered (i : grid0.Coords) (s : Carry F) : Carry F :=
  if cond0_0 i then ⟨s.o, k0_pay25, k0_pay26, k0_pay27⟩ else s

/-- A needed key block is folded in. -/
def updated (i : grid0.Coords) (q : Vec F S16x128x640 .bf16) (k : Vec F S512x640 .bf16) (s : Carry F) : Carry F :=
  if cond0_1 i then
    ⟨s.o, k0_pay30 (k0_pay5 (qw i) (kw i) q k s.m),
      k0_pay28 (k0_pay6 (qw i) (kw i) q k s.m) (k0_pay7 (qw i) (kw i) q k s.m) s.l,
      k0_pay29 k (k0_pay6 (qw i) (kw i) q k s.m) (k0_pay7 (qw i) (kw i) q k s.m) s.a⟩
  else s

/-- The sixteen heads' tiles of the output block, last stored first: head `h` in the columns from `128 * h`. -/
def tiles (a : Vec F S2048x512 .f32) (l : Vec F S2048x1 .f32) (w : Vec F S16x512x128 .bf16) :
    List (View.Piece (Elt F) S128x2048 .bf16) :=
  [⟨Rect.unit ![0, 1920] S128x128.size inb_S128x2048_S128x128_0_1920, k0_pay3 (k0_pay8 a l) (View.ld w (Rect.unit ![15, 0, 0] S1x512x128.size inb_S16x512x128_S1x512x128_15_0_0))⟩,
   ⟨Rect.unit ![0, 1792] S128x128.size inb_S128x2048_S128x128_0_1792, k0_pay2 (k0_pay8 a l) (View.ld w (Rect.unit ![14, 0, 0] S1x512x128.size inb_S16x512x128_S1x512x128_14_0_0))⟩,
   ⟨Rect.unit ![0, 1664] S128x128.size inb_S128x2048_S128x128_0_1664, k0_pay1 (k0_pay24 (k0_pay8 a l)) (View.ld w (Rect.unit ![13, 0, 0] S1x512x128.size inb_S16x512x128_S1x512x128_13_0_0))⟩,
   ⟨Rect.unit ![0, 1536] S128x128.size inb_S128x2048_S128x128_0_1536, k0_pay23 (k0_pay8 a l) (View.ld w (Rect.unit ![12, 0, 0] S1x512x128.size inb_S16x512x128_S1x512x128_12_0_0))⟩,
   ⟨Rect.unit ![0, 1408] S128x128.size inb_S128x2048_S128x128_0_1408, k0_pay22 (k0_pay8 a l) (View.ld w (Rect.unit ![11, 0, 0] S1x512x128.size inb_S16x512x128_S1x512x128_11_0_0))⟩,
   ⟨Rect.unit ![0, 1280] S128x128.size inb_S128x2048_S128x128_0_1280, k0_pay21 (k0_pay8 a l) (View.ld w (Rect.unit ![10, 0, 0] S1x512x128.size inb_S16x512x128_S1x512x128_10_0_0))⟩,
   ⟨Rect.unit ![0, 1152] S128x128.size inb_S128x2048_S128x128_0_1152, k0_pay20 (k0_pay8 a l) (View.ld w (Rect.unit ![9, 0, 0] S1x512x128.size inb_S16x512x128_S1x512x128_9_0_0))⟩,
   ⟨Rect.unit ![0, 1024] S128x128.size inb_S128x2048_S128x128_0_1024, k0_pay19 (k0_pay17 (k0_pay8 a l)) (k0_pay18 (View.ld w (Rect.unit ![8, 0, 0] S1x512x128.size inb_S16x512x128_S1x512x128_8_0_0))) (constant S128x128 FTy.f32 0#32)⟩,
   ⟨Rect.unit ![0, 896] S128x128.size inb_S128x2048_S128x128_0_896, k0_pay16 (k0_pay8 a l) (View.ld w (Rect.unit ![7, 0, 0] S1x512x128.size inb_S16x512x128_S1x512x128_7_0_0))⟩,
   ⟨Rect.unit ![0, 768] S128x128.size inb_S128x2048_S128x128_0_768, k0_pay15 (k0_pay8 a l) (View.ld w (Rect.unit ![6, 0, 0] S1x512x128.size inb_S16x512x128_S1x512x128_6_0_0))⟩,
   ⟨Rect.unit ![0, 640] S128x128.size inb_S128x2048_S128x128_0_640, k0_pay14 (k0_pay8 a l) (View.ld w (Rect.unit ![5, 0, 0] S1x512x128.size inb_S16x512x128_S1x512x128_5_0_0))⟩,
   ⟨Rect.unit ![0, 512] S128x128.size inb_S128x2048_S128x128_0_512, k0_pay13 (k0_pay8 a l) (View.ld w (Rect.unit ![4, 0, 0] S1x512x128.size inb_S16x512x128_S1x512x128_4_0_0))⟩,
   ⟨Rect.unit ![0, 384] S128x128.size inb_S128x2048_S128x128_0_384, k0_pay12 a l (View.ld w (Rect.unit ![3, 0, 0] S1x512x128.size inb_S16x512x128_S1x512x128_3_0_0))⟩,
   ⟨Rect.unit ![0, 256] S128x128.size inb_S128x2048_S128x128_0_256, k0_pay11 a l (View.ld w (Rect.unit ![2, 0, 0] S1x512x128.size inb_S16x512x128_S1x512x128_2_0_0))⟩,
   ⟨Rect.unit ![0, 128] S128x128.size inb_S128x2048_S128x128_0_128, k0_pay10 a l (View.ld w (Rect.unit ![1, 0, 0] S1x512x128.size inb_S16x512x128_S1x512x128_1_0_0))⟩,
   ⟨Rect.unit ![0, 0] S128x128.size inb_S128x2048_S128x128_0_0, k0_pay9 a l (View.ld w (Rect.unit ![0, 0, 0] S1x512x128.size inb_S16x512x128_S1x512x128_0_0_0))⟩]

/-- The output block the tiles make up. -/
def outBlock (a : Vec F S2048x512 .f32) (l : Vec F S2048x1 .f32) (w : Vec F S16x512x128 .bf16) : Vec F S128x2048 .bf16 :=
  View.canon (tiles a l w)

/-- At the last needed key block the output block is stored. -/
def stored (i : grid0.Coords) (w : Vec F S16x512x128 .bf16) (s : Carry F) : Carry F :=
  if cond0_2 i then ⟨outBlock s.a s.l w, s.m, s.l, s.a⟩ else s

/-- A grid point. -/
def step (i : grid0.Coords) (q : Vec F S16x128x640 .bf16) (k : Vec F S512x640 .bf16) (w : Vec F S16x512x128 .bf16)
    (s : Carry F) : Carry F :=
  stored i w (updated i q k (entered i s))

/-- The tiles cover the output block. -/
theorem tiles_cover (a : Vec F S2048x512 .f32) (l : Vec F S2048x1 .f32) (w : Vec F S16x512x128 .bf16) (y : S128x2048.Idx) :
    ∃ pc ∈ tiles a l w, y ∈ pc.1.set :=
  View.cover_of_tiledL (tiles a l w) S128x128.size (by sl_kernel_rfl) y

/-- Whatever a memref held, after the tiles are written it holds the output block. -/
theorem read_tiles {κ : Kind} {sp : Space} (v : View sig κ sp S128x2048 .bf16) (f : v.ty.Contents (Elt F))
    (a : Vec F S2048x512 .f32) (l : Vec F S2048x1 .f32) (w : Vec F S16x512x128 .bf16) :
    v.read (Elt F) (v.writes (Elt F) f (tiles a l w)) = outBlock a l w :=
  (View.read_writes_of_cover v f v v.junk _ (tiles_cover a l w)).trans (View.read_writes_junk_eq_canon ..)

end Cert.KernelIdeal.Flash

end
-- ==== Proof.Flash.Body.lean ====
/- The attention kernel's body, run: on whole memrefs holding a query block, a key block, the value projections and
   the carried contents it ends with the carried contents of the next point. -/
module

public import proofs.«01_k».proof.Proof.Flash.Step
public import Idealize.ShloMosaic.Lib.Pipeline.FrameBody
public import Idealize.ShloMosaic.Lib.Ring
public import Idealize.ShloMosaic.Lib.Pipeline.ValueKit
public import Idealize.ShloMosaic.Lib.VecWindow
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Flash

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 2400000 in
/-- The body at a grid point takes what the kernel carries to `step` of it, whichever of its branches are taken. -/
theorem body_run (c : Dev nD) (i : grid0.Coords) (arg3 : Memref sig .tc .vmem S16x128x640 .bf16) (harg3 : arg3.IsWhole) (arg4 : Memref sig .tc .vmem S512x640 .bf16) (harg4 : arg4.IsWhole) (arg5 : Memref sig .tc .vmem S16x512x128 .bf16) (harg5 : arg5.IsWhole) (arg6 : Memref sig .tc .vmem S128x2048 .bf16) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x512 .f32) (harg9 : arg9.IsWhole)
    (q : Vec F S16x128x640 .bf16) (k : Vec F S512x640 .bf16) (w : Vec F S16x512x128 .bf16) (s : Carry F)
    (E : Set ℕ) (K : PUnit → sProp 𝕄) :
    iprop(owns (c : Thread nD τ) arg3 fullShare q ∗ owns (c : Thread nD τ) arg4 fullShare k ∗ owns (c : Thread nD τ) arg5 fullShare w
        ∗ owns (c : Thread nD τ) arg6 fullShare s.o ∗ owns (c : Thread nD τ) arg7 fullShare s.m ∗ owns (c : Thread nD τ) arg8 fullShare s.l ∗ owns (c : Thread nD τ) arg9 fullShare s.a
        ∗ (iprop(owns (c : Thread nD τ) arg3 fullShare q ∗ owns (c : Thread nD τ) arg4 fullShare k ∗ owns (c : Thread nD τ) arg5 fullShare w
            ∗ owns (c : Thread nD τ) arg6 fullShare (step i q k w s).o ∗ owns (c : Thread nD τ) arg7 fullShare (step i q k w s).m ∗ owns (c : Thread nD τ) arg8 fullShare (step i q k w s).l ∗ owns (c : Thread nD τ) arg9 fullShare (step i q k w s).a) -∗ K ⟨⟩))
      ⊢ wp frame (wpE (defs₀ (F := F)) Variants.none c none) E (cc0_flash_prompt i arg3 harg3 arg4 harg4 arg5 harg5 arg6 harg6 arg7 harg7 arg8 harg8 arg9 harg9) K := by
  obtain ⟨o, mx, l, a⟩ := s
  by_cases hc0 : cond0_0 i <;> by_cases hc1 : cond0_1 i <;> by_cases hc2 : cond0_2 i
  all_goals
    unfold step entered
    first | rw [if_pos hc0] | rw [if_neg hc0]
    unfold updated
    first | rw [if_pos hc1] | rw [if_neg hc1]
    unfold stored
    first | rw [if_pos hc2] | rw [if_neg hc2]
    dsimp only
    simp only [cc0_flash_prompt_eq_skeleton]; unfold cc0_flash_prompt_skel
    simp only [k0_part5_eq_skeleton, k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3; obtain rfl := harg7.eq_unread hfs0; obtain rfl := harg8.eq_unread hfs1; obtain rfl := harg9.eq_unread hfs2
    sl_exec (disch := first | sl_exact hc0 | sl_exact hc1 | sl_exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; swap; · iexact H3
      ipureintro
      first
        | with_reducible exact harg6.read_unread _
        | (frame_open
           simp (disch := decide) only [View.ld_unit_lit', View.readCov_unit_lit', View.readCov_cons_unit_lit', View.readAt_eq_ld, Memref.IsWhole.read_unread]
           exact read_tiles _ _ _ _ _)
    isplitl [HS0]
    · iexists _; isplitr; swap; · iexact HS0
      ipureintro
      first
        | with_reducible exact harg7.read_unread _
        | (frame_open
           refine (View.read_writes_full _ _ _ _ _).trans ?_
           first | with_reducible rfl | simp (disch := decide) only [View.ld_unit_lit', View.readCov_unit_lit', View.readCov_cons_unit_lit', View.readAt_eq_ld, Memref.IsWhole.read_unread])
    isplitl [HS1]
    · iexists _; isplitr; swap; · iexact HS1
      ipureintro
      first
        | with_reducible exact harg8.read_unread _
        | (frame_open
           refine (View.read_writes_full _ _ _ _ _).trans ?_
           first | with_reducible rfl | simp (disch := decide) only [View.ld_unit_lit', View.readCov_unit_lit', View.readCov_cons_unit_lit', View.readAt_eq_ld, Memref.IsWhole.read_unread])
    iexists _; isplitr; swap; · iexact HS2
    ipureintro
    first
      | with_reducible exact harg9.read_unread _
      | (frame_open
         refine (View.read_writes_full _ _ _ _ _).trans ?_
         first | with_reducible rfl | simp (disch := decide) only [View.ld_unit_lit', View.readCov_unit_lit', View.readCov_cons_unit_lit', View.readAt_eq_ld, Memref.IsWhole.read_unread])

end Cert.KernelIdeal.Flash

end
-- ==== Proof.Flash.Frame.lean ====
/- The attention kernel's frame: what it carries at every grid point, the body's obligation there, the launch, and that
   it ends with its arguments unchanged and every counter at zero. -/
module

public import proofs.«01_k».proof.Proof.Flash.Body
public import Idealize.ShloMosaic.Lib.Pipeline.TableIdle
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Flash

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## What one point depends on -/

/-- The running quantities after a point do not depend on the output block, -/
theorem step_running (i : grid0.Coords) (q : Vec F S16x128x640 .bf16) (k : Vec F S512x640 .bf16) (w : Vec F S16x512x128 .bf16)
    (s s' : Carry F) (h : cond0_0 i ∨ (s.m = s'.m ∧ s.l = s'.l ∧ s.a = s'.a)) :
    (step i q k w s).m = (step i q k w s').m ∧ (step i q k w s).l = (step i q k w s').l ∧ (step i q k w s).a = (step i q k w s').a := by
  obtain ⟨o, mx, l, a⟩ := s
  obtain ⟨o', mx', l', a'⟩ := s'
  unfold step stored updated entered
  rcases h with h | ⟨rfl, rfl, rfl⟩
  · rw [if_pos h, if_pos h]
    split_ifs <;> exact ⟨rfl, rfl, rfl⟩
  · split_ifs <;> exact ⟨rfl, rfl, rfl⟩

/-- nor does the output block where it is stored; -/
theorem step_stored (i : grid0.Coords) (q : Vec F S16x128x640 .bf16) (k : Vec F S512x640 .bf16) (w : Vec F S16x512x128 .bf16)
    (s s' : Carry F) (hc : cond0_2 i) (h : cond0_0 i ∨ (s.m = s'.m ∧ s.l = s'.l ∧ s.a = s'.a)) :
    (step i q k w s).o = (step i q k w s').o := by
  obtain ⟨o, mx, l, a⟩ := s
  obtain ⟨o', mx', l', a'⟩ := s'
  unfold step stored updated entered
  rw [if_pos hc, if_pos hc]
  rcases h with h | ⟨rfl, rfl, rfl⟩
  · rw [if_pos h, if_pos h]
    split_ifs <;> rfl
  · split_ifs <;> rfl

/-- elsewhere it is left as it was. -/
theorem step_idle (i : grid0.Coords) (q : Vec F S16x128x640 .bf16) (k : Vec F S512x640 .bf16) (w : Vec F S16x512x128 .bf16)
    (s : Carry F) (hc : ¬cond0_2 i) : (step i q k w s).o = s.o := by
  unfold step stored updated entered
  rw [if_neg hc]
  split_ifs <;> rfl

/-! ## What is carried, point by point -/

/-- What the kernel carries before point `n` (before the first point nothing reads it). -/
def carry (c : Dev nD) : ℕ → Carry F
  | 0 => ⟨constant S128x2048 .bf16 0x0000#16, k0_pay25, k0_pay26, k0_pay27⟩
  | n + 1 =>
    if h : n < cfg0.N then
      step (grid0.coords ⟨n, h⟩) (iblk m c 0 ⟨n, h⟩) (iblk m c 1 ⟨n, h⟩) (iblk m c 2 ⟨n, h⟩) (carry c n)
    else carry c n

theorem carry_succ (c : Dev nD) (t : Fin cfg0.N) :
    carry m c (t.val + 1) = step (grid0.coords t) (iblk m c 0 t) (iblk m c 1 t) (iblk m c 2 t) (carry m c t.val) := by
  rw [carry, dif_pos t.isLt]

/-- The invariant before position `n`: before the first point the scratch holds anything, afterwards what is carried. -/
def PhiS (c : Dev nD) : ℕ → sProp 𝕄
  | 0 => Pipeline.ΦA spec0 c
  | n + 1 => iprop(iprop(owns (c : Thread nD τ) scM0_0 fullShare (carry m c (n + 1)).m ∗ owns (c : Thread nD τ) scM0_1 fullShare (carry m c (n + 1)).l ∗ owns (c : Thread nD τ) scM0_2 fullShare (carry m c (n + 1)).a) ∗ (∃ r, prngReg c r))

/-- Before any point the scratch holds contents that agree with what is carried unless the point resets them. -/
theorem PhiS_open (c : Dev nD) (t : Fin cfg0.N) :
    PhiS m c t.val ⊢ (iprop(∃ mx l a, ⌜cond0_0 (grid0.coords t) ∨ (mx = (carry m c t.val).m ∧ l = (carry m c t.val).l ∧ a = (carry m c t.val).a)⌝
      ∗ iprop(owns (c : Thread nD τ) scM0_0 fullShare mx ∗ owns (c : Thread nD τ) scM0_1 fullShare l ∗ owns (c : Thread nD τ) scM0_2 fullShare a) ∗ (∃ r, prngReg c r)) : sProp 𝕄) := by
  by_cases hz : t.val = 0
  · have h0 := (hcond0_0 t).mpr (by omega)
    rw [hz, PhiS, PhiA0_eq]
    iintro ⟨⟨⟨%d0, H0⟩, ⟨%d1, H1⟩, ⟨%d2, H2⟩⟩, Hg⟩
    iexists d0, d1, d2
    isplitr; · ipureintro; exact .inl h0
    isplitl [H0 H1 H2]
    · isplitl [H0]; · iexact H0
      isplitl [H1]; · iexact H1
      iexact H2
    iexact Hg
  · obtain ⟨n, hn⟩ := Nat.exists_eq_succ_of_ne_zero hz
    rw [hn, Nat.succ_eq_add_one, PhiS]
    iintro ⟨⟨H0, H1, H2⟩, Hg⟩
    iexists _, _, _
    isplitr; swap
    · isplitl [H0 H1 H2]
      · isplitl [H0]; · iexact H0
        isplitl [H1]; · iexact H1
        iexact H2
      iexact Hg
    ipureintro; exact .inr ⟨rfl, rfl, rfl⟩

/-- The proof data: each input's buffer at its block, the output's at the carried block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (carry m c (t.val + 1)).o
  Φ t := PhiS m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (carry m c (t.val + 1)).o := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- The output block is idle exactly where it is not stored. -/
theorem idle_iff (i : grid0.Coords) : cfg0.idle 3 i = true ↔ ¬cond0_2 i := by
  show (!(k0_cond3 i == 1#1)) = true ↔ _
  simp

/-- The output's buffer is fresh before a point until its block is stored. -/
theorem fresh_eq (n : ℕ) (h : n ≤ cfg0.N) : cfg0.fresh 3 n = decide (n % 8 ≤ n / 8 % 32 / 4) :=
  Pipeline.Cfg.fresh_tab (cfg := cfg0) 3 (fun n => decide (n % 8 ≤ n / 8 % 32 / 4)) rfl
    (by decide +kernel : ∀ t : Fin grid0.N, decide ((t.val + 1) % 8 ≤ (t.val + 1) / 8 % 32 / 4)
        = (win0_3.flush t || (idle0 3 (grid0.coords t) && decide (t.val % 8 ≤ t.val / 8 % 32 / 4)))) n h

/-- At the last key block of an idle point the output's buffer holds the carried block. -/
theorem before0_3 (c : Dev nD) (t : Fin cfg0.N) (h7 : t.val % 8 = 7) (hi : ¬cond0_2 (grid0.coords t)) (d) :
    (dats m 0 c).before 3 t d = (carry m c (t.val + 1)).o := by
  have hf : cfg0.fresh 3 t.val = false := by
    rw [fresh_eq _ (Nat.le_of_lt t.isLt), decide_eq_false_iff_not]
    intro h
    exact hi ((hcond0_2 t).mpr (by omega))
  rw [Dat.before_out_traj (dats m 0 c) 3 rfl (fun _ _ => rfl) (fun s hs hidle _ => ?_) t.val t rfl d, if_neg (by rw [hf]; exact Bool.false_ne_true), after0_3]
  · rw [carry_succ m c t, step_idle _ _ _ _ _ hi]
    show (carry m c (t.val - 1 + 1)).o = _
    rw [Nat.sub_add_cancel (by omega)]
  · rw [after0_3, after0_3, carry_succ m c s, step_idle _ _ _ _ _ ((idle_iff _).mp hidle)]
    show _ = (carry m c (s.val - 1 + 1)).o
    rw [Nat.sub_add_cancel (by omega)]

/-! ## The body's obligation -/

set_option maxHeartbeats 1600000 in
/-- The body at any point: its inputs hold their blocks, the scratch what is carried (or anything, where it is reset), so
    `body_run` applies; where the output block is not stored it is handed back as it was found. -/
theorem sound_body (c : Dev nD) (t : Fin cfg0.N) :
    iprop((dats m 0 c).Φ t.castSucc ∗ (dats m 0 c).owesAt () t.castSucc
        ∗ (∃ d, owns (c : Thread nD τ) (ms0_0 t) fullShare ((dats m 0 c).before 0 t d))
        ∗ (∃ d, owns (c : Thread nD τ) (ms0_1 t) fullShare ((dats m 0 c).before 1 t d))
        ∗ (∃ d, owns (c : Thread nD τ) (ms0_2 t) fullShare ((dats m 0 c).before 2 t d))
        ∗ (∃ d, owns (c : Thread nD τ) (ms0_3 t) fullShare ((dats m 0 c).before 3 t d)))
      ⊢ wp frame (wpE (defs₀ (F := F)) Variants.none c none) Set.univ (bodyAt0 t) (fun _ =>
        iprop((dats m 0 c).Φ t.succ ∗ (dats m 0 c).owesAt () t.succ
          ∗ owns (c : Thread nD τ) (ms0_0 t) fullShare ((dats m 0 c).after 0 t)
          ∗ owns (c : Thread nD τ) (ms0_1 t) fullShare ((dats m 0 c).after 1 t)
          ∗ owns (c : Thread nD τ) (ms0_2 t) fullShare ((dats m 0 c).after 2 t)
          ∗ (dats m 0 c).leavesExact 3 t)) := by
  unfold bodyAt0
  simp only [before0_0, before0_1, before0_2]
  rw [show (dats m 0 c).owesAt () t.succ = (dats m 0 c).owesAt () t.castSucc from rfl, after0_0, after0_1, after0_2]
  rw [show (dats m 0 c).Φ t.castSucc = PhiS m c t.val from rfl, show (dats m 0 c).Φ t.succ = PhiS m c (t.val + 1) from rfl]
  iintro ⟨HΦ, Ho, ⟨%d0, H0⟩, ⟨%d1, H1⟩, ⟨%d2, H2⟩, ⟨%d3, H3⟩⟩
  ihave HΦ := (PhiS_open m c t) $$ HΦ
  icases HΦ with ⟨%mx, %l, %a, %h, ⟨HS0, HS1, HS2⟩, Hg⟩
  have hr := step_running (grid0.coords t) (iblk m c 0 t) (iblk m c 1 t) (iblk m c 2 t) ⟨(dats m 0 c).before 3 t d3, mx, l, a⟩ (carry m c t.val) h
  iapply (body_run c (grid0.coords t) _ _ _ _ _ _ _ _ _ _ _ _ _ _ (iblk m c 0 t) (iblk m c 1 t) (iblk m c 2 t) ⟨(dats m 0 c).before 3 t d3, mx, l, a⟩ Set.univ _)
  isplitl [H0]; · iexact H0
  isplitl [H1]; · iexact H1
  isplitl [H2]; · iexact H2
  isplitl [H3]; · iexact H3
  isplitl [HS0]; · iexact HS0
  isplitl [HS1]; · iexact HS1
  isplitl [HS2]; · iexact HS2
  rw [hr.1, hr.2.1, hr.2.2, ← carry_succ, PhiS]
  iintro ⟨H0, H1, H2, H3, HS0, HS1, HS2⟩
  isplitl [HS0 HS1 HS2 Hg]
  · isplitl [HS0 HS1 HS2]
    · isplitl [HS0]; · iexact HS0
      isplitl [HS1]; · iexact HS1
      iexact HS2
    iexact Hg
  isplitl [Ho]; · iexact Ho
  isplitl [H0]; · iexact H0
  isplitl [H1]; · iexact H1
  isplitl [H2]; · iexact H2
  by_cases hc : cond0_2 (grid0.coords t)
  · have hi : cfg0.idle 3 (grid0.coords t) = false := by
      rw [← Bool.not_eq_true]; exact fun hh => (idle_iff _).mp hh hc
    unfold Dat.leavesExact; rw [hi, after0_3, carry_succ, step_stored _ _ _ _ _ (carry m c t.val) hc h]
    iexact H3
  · have hi := (idle_iff (grid0.coords t)).mpr hc
    rw [step_idle _ _ _ _ _ hc]
    by_cases h7 : t.val % 8 = 7
    · have hf := (flush0_3 t).mpr h7
      unfold Dat.leavesExact; rw [hi, hf, after0_3]
      dsimp only
      rw [before0_3 m c t h7 hc]
      iexact H3
    · have hf : (cfg0.win 3).flush t = false := by
        rw [← Bool.not_eq_true]; exact fun hh => h7 ((flush0_3 t).mp hh)
      unfold Dat.leavesExact; rw [hi, hf]
      iexists d3
      iexact H3

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

/-- The pipeline's obligation on the body, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands over is the invariant before the first point, -/
theorem hin (c : Dev nD) : Pipeline.ΦA spec0 c ⊢ (dats m 0 c).Φ 0 := by
  rw [show (dats m 0 c).Φ 0 = PhiS m c 0 from rfl, PhiS]

/-- and after the last point the invariant gives it back. -/
theorem hout (c : Dev nD) : (dats m 0 c).Φ (Fin.last cfg0.N) ⊢ Pipeline.ΦA spec0 c := by
  rw [show (dats m 0 c).Φ (Fin.last cfg0.N) = PhiS m c cfg0.N from rfl, show cfg0.N = 511 + 1 from N_0, PhiS, PhiA0_eq]
  iintro ⟨⟨H0, H1, H2⟩, Hg⟩
  isplitl [H0 H1 H2]
  · isplitl [H0]; · iexists _; iexact H0
    isplitl [H1]; · iexists _; iexact H1
    iexists _; iexact H2
  · iexact Hg

/-! ## The run and the frame -/

set_option backward.isDefEq.respectTransparency.types false in
/-- The launch ends with every array at what the proof data says and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The launch ends with every array at what the proof data says. -/
theorem run_main : θ_run defs (onTc (τ := τ) (main (F := F))) (s₀ m ρ) (Pipeline.FramePost cfgs (dats m) 0 (V m)) :=
  (θ_run defs _ _).mono (fun _ h => h.1) (run_main_quiescent m ρ)

/-- The kernel terminates with its arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

end Cert.KernelIdeal.Flash

end
-- ==== Proof.Flash.Words.lean ====
/- The attention kernel as it runs, on machine words: its frame. The two attention programs differ only in how the mask's
   fill is written (a literal in one, a named constant in the other), and their frame holds for every reading of the
   numbers; reading the named constant back as its literal therefore turns the one into the other. -/
module
public import proofs.«01_k».proof.Proof.Flash.Frame
public import proofs.«01_k».proof.Proof.Gen.Kernel.Frame
public import proofs.«01_k».proof.Defs

@[expose] public section

set_option maxRecDepth 16384
set_option Elab.async false
noncomputable section

namespace Cert.Kernel.Flash
open Idealize.ShloMosaic Idealize.ShloMosaic.TcCoe

/-- A named constant, on machine words, is its literal. -/
local instance words : Named Bits := ⟨fun _ _ _ b => FloatOps.ofBits _ b⟩

/-- On words the two programs' body tables are the same, -/
theorem bodies_eq [Cert.Kernel.Facts] [Cert.KernelIdeal.Facts] : Cert.Kernel.defs₀ (F := Bits) = Cert.KernelIdeal.defs₀ (F := Bits) := by
  unfold Cert.Kernel.defs₀ Cert.KernelIdeal.defs₀
  congr 1
  funext l x
  match l, x with
  | 0, (t, s) => rfl

/-- and so are the pipelines over them. -/
theorem defs_eq [Cert.Kernel.Facts] [Cert.KernelIdeal.Facts] : Cert.Kernel.defs (F := Bits) = Cert.KernelIdeal.defs (F := Bits) := by
  unfold Cert.Kernel.defs Cert.KernelIdeal.defs
  exact congrArg (Pipeline.defs (Cert.KernelIdeal.pcfgs)) bodies_eq

/-- The attention kernel terminates with its arguments unchanged and every counter at zero. -/
theorem frame [Cert.Kernel.Facts] [Cert.KernelIdeal.Facts] : Cert.quiescent_Kernel := fun m ρ _ => by
  rw [defs_eq]
  exact Cert.KernelIdeal.Flash.frame (F := Bits) m ρ

end Cert.Kernel.Flash

end
-- ==== Proof.Value.Math.lean ====
/-
The mathematics the three programs share, over the extended reals and with plain natural-number indices:
reading an array at a row and a lane, the normalisation of a row, and the gate `a / (1 + exp (-a))`.
-/
module

public import Idealize.ShloMosaic.Lib.Pointwise

@[expose] public section

noncomputable section

namespace Cert.Value

open Idealize.ShloMosaic Idealize.SL.Sem

/-- The element of a matrix at row `a` and column `b`; zero outside the matrix. -/
def at2 {n0 n1 : ℕ} (X : (⟨2, ![n0, n1]⟩ : Shape).Idx → EReal) (a b : ℕ) : EReal :=
  if h : a < n0 ∧ b < n1 then X (ix2 ⟨a, h.1⟩ ⟨b, h.2⟩) else 0

/-- The element of a rank-three array; zero outside the array. -/
def at3 {n0 n1 n2 : ℕ} (X : (⟨3, ![n0, n1, n2]⟩ : Shape).Idx → EReal) (a b c : ℕ) : EReal :=
  if h : a < n0 ∧ b < n1 ∧ c < n2 then X (ix3 ⟨a, h.1⟩ ⟨b, h.2.1⟩ ⟨c, h.2.2⟩) else 0

/-- Reading a matrix at an index is reading it at the index's two numbers. -/
theorem at2_ix {n0 n1 : ℕ} (X : (⟨2, ![n0, n1]⟩ : Shape).Idx → EReal) (a : Fin n0) (b : Fin n1) :
    X (ix2 a b) = at2 X a.val b.val := by
  rw [at2, dif_pos ⟨a.isLt, b.isLt⟩]

/-- Reading a rank-three array at an index is reading it at the index's three numbers. -/
theorem at3_ix {n0 n1 n2 : ℕ} (X : (⟨3, ![n0, n1, n2]⟩ : Shape).Idx → EReal) (a : Fin n0) (b : Fin n1) (c : Fin n2) :
    X (ix3 a b c) = at3 X a.val b.val c.val := by
  rw [at3, dif_pos ⟨a.isLt, b.isLt, c.isLt⟩]

/-- A matrix read at any index whose numbers are `a` and `b`. -/
theorem at2_of {n0 n1 : ℕ} (X : (⟨2, ![n0, n1]⟩ : Shape).Idx → EReal) (i : (⟨2, ![n0, n1]⟩ : Shape).Idx) (a b : ℕ)
    (h0 : (i 0).val = a) (h1 : (i 1).val = b) : X i = at2 X a b := by
  subst h0 h1
  rw [at2, dif_pos ⟨(i 0).isLt, (i 1).isLt⟩]
  congr 1
  exact eq_ix2 i

/-- A rank-three array read at any index whose numbers are `a`, `b` and `c`. -/
theorem at3_of {n0 n1 n2 : ℕ} (X : (⟨3, ![n0, n1, n2]⟩ : Shape).Idx → EReal) (i : (⟨3, ![n0, n1, n2]⟩ : Shape).Idx)
    (a b c : ℕ) (h0 : (i 0).val = a) (h1 : (i 1).val = b) (h2 : (i 2).val = c) : X i = at3 X a b c := by
  subst h0 h1 h2
  rw [at3, dif_pos ⟨(i 0).isLt, (i 1).isLt, (i 2).isLt⟩]
  congr 1
  exact eq_ix3 i

/-- A sum over the lanes of an axis is the sum over the numbers below its length. -/
theorem sum_lanes {n : ℕ} (f : Fin n → EReal) (g : ℕ → EReal) (h : ∀ k : Fin n, f k = g k.val) :
    ∑ k : Fin n, f k = ∑ k ∈ Finset.range n, g k := by
  rw [Finset.sum_range]
  exact Finset.sum_congr rfl fun k _ => h k

/-- A row divided by its root mean square (with the small constant added to the mean) and multiplied by the gain. -/
def rms (x g : ℕ → EReal) (k : ℕ) : EReal :=
  x k * Ideal.rsqrt (Ideal.div (∑ l ∈ Finset.range 2048, x l * x l) (Ideal.ofBits FTy.f32 1157627904#32)
    + Ideal.ofBits FTy.f32 897988541#32) * g k

/-- The normalised row depends on the row's 2048 elements only. -/
theorem rms_congr {x y : ℕ → EReal} (g : ℕ → EReal) (h : ∀ l : Fin 2048, x l = y l) (k : Fin 2048) :
    rms x g k = rms y g k := by
  have hs : ∑ l ∈ Finset.range 2048, x l * x l = ∑ l ∈ Finset.range 2048, y l * y l :=
    Finset.sum_congr rfl fun l hl => by rw [show x l = y l from h ⟨l, Finset.mem_range.1 hl⟩]
  rw [rms, rms, hs, h k]

/-- The literal `+∞`. -/
theorem ofBits_inf : Ideal.ofBits FTy.f32 0x7F800000#32 = ⊤ := by
  simp [Ideal.ofBits, Ideal.ieee]

/-- The literal `-∞`. -/
theorem ofBits_neg_inf : Ideal.ofBits FTy.f32 0xFF800000#32 = ⊥ := by
  simp [Ideal.ofBits, Ideal.ieee]

/-- The gate `a / (1 + exp (-a))`. -/
def swish (a : EReal) : EReal := Ideal.div a (1 + Ideal.exp (-a))

/-- One plus an exponential is never zero. -/
theorem one_add_exp_ne_zero (a : EReal) : (1 : EReal) + Ideal.exp a ≠ 0 := by
  have h0 : (0 : EReal) ≤ Ideal.exp a := by
    induction a using EReal.rec with
    | bot => exact le_refl (0 : EReal)
    | coe r => exact EReal.coe_nonneg.2 (Real.exp_pos r).le
    | top => exact le_top (a := (0 : EReal))
  have h1 : (1 : EReal) ≤ 1 + Ideal.exp a := le_add_of_nonneg_right h0
  exact (lt_of_lt_of_le zero_lt_one h1).ne'

/-- Dividing by `1 + exp (-a)` is multiplying by the logistic function of `a`. -/
theorem mul_logistic (a : EReal) : a * Ideal.div 1 (1 + Ideal.exp (-a)) = swish a := by
  have h := one_add_exp_ne_zero (-a)
  rw [swish, Ideal.div, Ideal.div, if_neg h, if_neg h, one_mul]

end Cert.Value

end
-- ==== Proof.Value.AttnPay.lean ====
/-
The attention kernel's pure steps read at one element: the masked scores of a key block, the new running maximum, the
rescaling, the weights, the new running sums, and the output block of sixteen heads.
-/
module

public import proofs.«01_k».proof.Proof.Flash.Step
public import proofs.«01_k».proof.Proof.Value.Math
public import Idealize.ShloMosaic.Lib.Pipeline.ValueKit
public import Idealize.ShloMosaic.Lib.WordCmp

@[expose] public section

set_option maxRecDepth 16384

noncomputable section

namespace Cert.Value.Attn

open Idealize.ShloMosaic Idealize.ShloMosaic.TcCoe Idealize.SL.Sem
open Cert.Value Cert.KernelIdeal Cert.KernelIdeal.Gen Cert.KernelIdeal.Flash

/-- The named fill of the mask is minus infinity. -/
theorem mask_eq : Named.named (F := Ideal) (φ := .f32) κ "mask" 0xF149F2CA#32 = (⊥ : EReal) := rfl

/-- A score row's query within its block: the remainder by 128 that the kernel's words compute. -/
theorem row_word : ∀ r : Fin 2048, Scalar.select
      (IntOp.andi
        (IntOp.xori
          (IntOp.cmpi CmpIPredicate.slt
            (IntOp.remsi ArithUnit.vector (BitVec.ofNat 32 r.val)
              (Scalar.select (Scalar.cmpi CmpIPredicate.eq 128#32 0#32) 1#32 128#32))
            0#32)
          (Scalar.cmpi CmpIPredicate.slt (Scalar.select (Scalar.cmpi CmpIPredicate.eq 128#32 0#32) 1#32 128#32)
            0#32))
        (IntOp.cmpi CmpIPredicate.ne
          (IntOp.remsi ArithUnit.vector (BitVec.ofNat 32 r.val)
            (Scalar.select (Scalar.cmpi CmpIPredicate.eq 128#32 0#32) 1#32 128#32))
          0#32))
      (IntOp.addi
        (IntOp.remsi ArithUnit.vector (BitVec.ofNat 32 r.val)
          (Scalar.select (Scalar.cmpi CmpIPredicate.eq 128#32 0#32) 1#32 128#32))
        (Scalar.select (Scalar.cmpi CmpIPredicate.eq 128#32 0#32) 1#32 128#32))
      (IntOp.remsi ArithUnit.vector (BitVec.ofNat 32 r.val)
        (Scalar.select (Scalar.cmpi CmpIPredicate.eq 128#32 0#32) 1#32 128#32)) = BitVec.ofNat 32 (r.val % 128) := by
  decide +kernel

/-- The mask's comparison of a key's position with the query's, as numbers. -/
theorem pos_word (Q K r j : ℕ) (hQ : Q < 32) (hK : K < 8) (hr : r < 128) (hj : j < 512) :
    IntOp.cmpi CmpIPredicate.sle (IntOp.addi (Scalar.muli (BitVec.ofNat 32 K) 512#32) (BitVec.ofNat 32 j))
      (IntOp.addi (Scalar.muli (BitVec.ofNat 32 Q) 128#32) (BitVec.ofNat 32 r))
      = BitVec.ofBool (decide (512 * K + j ≤ 128 * Q + r)) := by
  have h1 : IntOp.addi (Scalar.muli (BitVec.ofNat 32 K) 512#32) (BitVec.ofNat 32 j) = BitVec.ofNat 32 (512 * K + j) := by
    show BitVec.ofNat 32 K * BitVec.ofNat 32 512 + BitVec.ofNat 32 j = _
    rw [← BitVec.ofNat_mul, ← BitVec.ofNat_add, Nat.mul_comm]
  have h2 : IntOp.addi (Scalar.muli (BitVec.ofNat 32 Q) 128#32) (BitVec.ofNat 32 r) = BitVec.ofNat 32 (128 * Q + r) := by
    show BitVec.ofNat 32 Q * BitVec.ofNat 32 128 + BitVec.ofNat 32 r = _
    rw [← BitVec.ofNat_mul, ← BitVec.ofNat_add, Nat.mul_comm]
  rw [h1, h2, WordCmp.cmpi_sle_ofNat (by omega) (by omega)]

/-- A masked score: the product of the query's and the key's lanes, or minus infinity past the query's position. -/
theorem score_apply (Q K : ℕ) (hQ : Q < 32) (hK : K < 8) (q : FVec Ideal S16x128x640 .bf16) (k : FVec Ideal S512x640 .bf16)
    (r : Fin 2048) (j : Fin 512) :
    k0_pay4 (F := Ideal) (BitVec.ofNat 32 Q) (BitVec.ofNat 32 K) q k (ix2 r j)
      = if 512 * K + j.val ≤ 128 * Q + r.val % 128 then
          ∑ x : Fin 640, q (ix3 ⟨r.val / 128, by omega⟩ ⟨r.val % 128, by omega⟩ x) * k (ix2 j x)
        else (⊥ : EReal) := by
  pointwise [k0_pay4]
  rw [row_word, pos_word Q K _ _ hQ hK (by omega) j.isLt, mask_eq]
  unfold Scalar.select
  split_ifs <;> simp_all

/-- The running maximum after a key block. -/
theorem max_apply (qi ki : BitVec 32) (q : FVec Ideal S16x128x640 .bf16) (k : FVec Ideal S512x640 .bf16) (mx : FVec Ideal S2048x1 .f32)
    (r : Fin 2048) :
    k0_pay30 (k0_pay5 (F := Ideal) qi ki q k mx) (ix2 r 0)
      = max (mx (ix2 r 0)) (Finset.fold max ⊥ (fun j : Fin 512 => k0_pay4 (F := Ideal) qi ki q k (ix2 r j)) Finset.univ) := by
  pointwise [k0_pay30, k0_pay5]
  rw [ofBits_neg_inf]

/-- The running sum of the weights after a key block. -/
theorem sum_apply (qi ki : BitVec 32) (q : FVec Ideal S16x128x640 .bf16) (k : FVec Ideal S512x640 .bf16) (mx l : FVec Ideal S2048x1 .f32)
    (r : Fin 2048) :
    k0_pay28 (k0_pay6 (F := Ideal) qi ki q k mx) (k0_pay7 (F := Ideal) qi ki q k mx) l (ix2 r 0)
      = Ideal.exp (mx (ix2 r 0) - k0_pay30 (k0_pay5 (F := Ideal) qi ki q k mx) (ix2 r 0)) * l (ix2 r 0)
        + ∑ j : Fin 512, Ideal.exp (k0_pay4 (F := Ideal) qi ki q k (ix2 r j) - k0_pay30 (k0_pay5 (F := Ideal) qi ki q k mx) (ix2 r 0)) := by
  pointwise [k0_pay28, k0_pay6, k0_pay7, k0_pay30]

/-- The running weighted sum of the values after a key block. -/
theorem acc_apply (qi ki : BitVec 32) (q : FVec Ideal S16x128x640 .bf16) (k : FVec Ideal S512x640 .bf16) (mx : FVec Ideal S2048x1 .f32)
    (a : FVec Ideal S2048x512 .f32) (r : Fin 2048) (d : Fin 512) :
    k0_pay29 k (k0_pay6 (F := Ideal) qi ki q k mx) (k0_pay7 (F := Ideal) qi ki q k mx) a (ix2 r d)
      = Ideal.exp (mx (ix2 r 0) - k0_pay30 (k0_pay5 (F := Ideal) qi ki q k mx) (ix2 r 0)) * a (ix2 r d)
        + ∑ j : Fin 512, Ideal.exp (k0_pay4 (F := Ideal) qi ki q k (ix2 r j) - k0_pay30 (k0_pay5 (F := Ideal) qi ki q k mx) (ix2 r 0))
            * k (ix2 j ⟨d.val, by omega⟩) := by
  pointwise [k0_pay29, k0_pay6, k0_pay7, k0_pay30]

/-- The running quantities start at minus infinity, zero and zero. -/
theorem fresh_max (r : Fin 2048) : k0_pay25 (F := Ideal) (ix2 r 0) = ⊥ := by
  pointwise [k0_pay25]
  exact mask_eq
theorem fresh_sum (r : Fin 2048) : k0_pay26 (F := Ideal) (ix2 r 0) = 0 := by
  pointwise [k0_pay26]
theorem fresh_acc (r : Fin 2048) (d : Fin 512) : k0_pay27 (F := Ideal) (ix2 r d) = 0 := by
  pointwise [k0_pay27]

/-- One head's tile depends on its rows, its head and its column by their numbers. -/
theorem tile_eq (a : FVec Ideal S2048x512 .f32) (l : FVec Ideal S2048x1 .f32) (w : FVec Ideal S16x512x128 .bf16)
    (R R' : Fin 2048) (H H' : Fin 16) (c c' : Fin 128) (hR : R = R') (hH : H = H') (hc : c = c') :
    ∑ d : Fin 512, Ideal.div (a (ix2 R d)) (l (ix2 R 0)) * w (ix3 H d c)
      = ∑ d : Fin 512, Ideal.div (a (ix2 R' d)) (l (ix2 R' 0)) * w (ix3 H' d c') := by
  rw [hR, hH, hc]

/-- The output block: head `y / 128`'s normalised row times that head's projection. -/
theorem out_apply (a : FVec Ideal S2048x512 .f32) (l : FVec Ideal S2048x1 .f32) (w : FVec Ideal S16x512x128 .bf16)
    (r : Fin 128) (y : Fin 2048) :
    outBlock (F := Ideal) a l w (ix2 r y) = ∑ d : Fin 512,
      Ideal.div (a (ix2 ⟨128 * (y.val / 128) + r.val, by omega⟩ d)) (l (ix2 ⟨128 * (y.val / 128) + r.val, by omega⟩ 0))
        * w (ix3 ⟨y.val / 128, by omega⟩ d ⟨y.val % 128, by omega⟩) := by
  unfold outBlock tiles
  canon_tiles x h using tiles_cover ..
  all_goals
    idx_vars x
    open_payloads
    pointwise
    refine tile_eq a l w _ _ _ _ _ _ (Fin.ext ?_) (Fin.ext ?_) (Fin.ext ?_) <;> simp <;> omega

end Cert.Value.Attn

end
-- ==== Proof.Value.Softmax.lean ====
/-
The softmax-weighted average of the keys a row may see, computed two ways, over real scores: block by block with a
running maximum, a running sum of weights and a running weighted sum, and all keys at once. Both are
`(Σ exp (σ j) v j) / Σ exp (σ j)` over the keys seen: the level subtracted from the scores cancels, whatever it is.
-/
module

public import proofs.«01_k».proof.Proof.Value.Math

@[expose] public section

noncomputable section

namespace Cert.Value.Attn

open Idealize.ShloMosaic Idealize.SL.Sem

variable (σ : ℕ → ℝ) (p : ℕ)

/-- The masked score of key `j` for the query at position `p`: minus infinity past the position. -/
def msk (j : ℕ) : EReal := if j ≤ p then (σ j : EReal) else ⊥

/-- The weight of key `j` relative to the level `M`: zero past the position. -/
def wgt (M : ℝ) (j : ℕ) : ℝ := if j ≤ p then Real.exp (σ j - M) else 0

/-- The softmax-weighted average of `v` over the keys up to the position. -/
def avg (v : ℕ → ℝ) : ℝ :=
  (∑ j ∈ Finset.range (p + 1), Real.exp (σ j) * v j) / ∑ j ∈ Finset.range (p + 1), Real.exp (σ j)

/-- A sum of reals, as an extended real. -/
theorem coe_sum {ι : Type} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

/-- The exponential of a masked score relative to a level is the weight. -/
theorem exp_msk (M : ℝ) (j : ℕ) : Ideal.exp (msk σ p j - (M : EReal)) = ((wgt σ p M j : ℝ) : EReal) := by
  unfold msk wgt
  split_ifs
  · rw [← EReal.coe_sub]; rfl
  · rw [EReal.bot_sub]; rfl

/-- Dividing a real by a real other than zero. -/
theorem div_coe (a b : ℝ) (hb : b ≠ 0) : Ideal.div (a : EReal) (b : EReal) = ((a / b : ℝ) : EReal) := by
  rw [Ideal.div, if_neg (by rw [EReal.coe_eq_zero]; exact hb), div_eq_mul_inv, EReal.coe_mul, EReal.coe_inv]

/-- Weights relative to one level are weights relative to another, scaled. -/
theorem wgt_shift (M M' : ℝ) (j : ℕ) : Real.exp (M - M') * wgt σ p M j = wgt σ p M' j := by
  unfold wgt
  split_ifs
  · rw [← Real.exp_add]; ring_nf
  · rw [mul_zero]

/-- A weighted sum relative to a level, over any keys that include all up to the position. -/
theorem sum_wgt (M : ℝ) (n : ℕ) (h : p < n) (v : ℕ → ℝ) :
    ∑ j ∈ Finset.range n, wgt σ p M j * v j = Real.exp (-M) * ∑ j ∈ Finset.range (p + 1), Real.exp (σ j) * v j := by
  rw [Finset.mul_sum, ← Finset.sum_subset (Finset.range_subset_range.2 h)]
  · refine Finset.sum_congr rfl fun j hj => ?_
    rw [wgt, if_pos (Nat.lt_succ_iff.1 (Finset.mem_range.1 hj)), ← mul_assoc, ← Real.exp_add]
    ring_nf
  · intro j _ hj
    rw [Finset.mem_range] at hj
    rw [wgt, if_neg (by omega), zero_mul]

/-- The sum of the weights is positive once a key is seen. -/
theorem sum_exp_pos : 0 < ∑ j ∈ Finset.range (p + 1), Real.exp (σ j) :=
  Finset.sum_pos (fun _ _ => Real.exp_pos _) ⟨0, Finset.mem_range.2 (Nat.succ_pos p)⟩

theorem sum_wgt_one (M : ℝ) (n : ℕ) (h : p < n) :
    ∑ j ∈ Finset.range n, wgt σ p M j = Real.exp (-M) * ∑ j ∈ Finset.range (p + 1), Real.exp (σ j) := by
  have := sum_wgt σ p M n h fun _ => 1
  simpa only [mul_one] using this

theorem sum_wgt_ne (M : ℝ) (n : ℕ) (h : p < n) : ∑ j ∈ Finset.range n, wgt σ p M j ≠ 0 := by
  rw [sum_wgt_one σ p M n h]
  exact (mul_pos (Real.exp_pos _) (sum_exp_pos σ p)).ne'

/-- The weighted sum over the sum of the weights is the average, whatever the level. -/
theorem ratio (M : ℝ) (n : ℕ) (h : p < n) (v : ℕ → ℝ) :
    (∑ j ∈ Finset.range n, wgt σ p M j * v j) / ∑ j ∈ Finset.range n, wgt σ p M j = avg σ p v := by
  rw [sum_wgt σ p M n h, sum_wgt_one σ p M n h, mul_div_mul_left _ _ (Real.exp_pos _).ne', avg]

/-! ## Block by block -/

/-- The running quantities hold the sums over the first `n` keys, relative to some level. -/
def Row (v : ℕ → ℕ → ℝ) (n : ℕ) (m l : EReal) (a : Fin 512 → EReal) : Prop :=
  ∃ M : ℝ, m = M ∧ l = ((∑ j ∈ Finset.range n, wgt σ p M j : ℝ) : EReal)
    ∧ ∀ d : Fin 512, a d = ((∑ j ∈ Finset.range n, wgt σ p M j * v j d : ℝ) : EReal)

/-- A maximum from minus infinity over values none of which is plus infinity is not plus infinity, -/
theorem fold_max_ne_top (f : Fin 512 → EReal) (h : ∀ j, f j ≠ ⊤) : Finset.fold max ⊥ f Finset.univ ≠ ⊤ := by
  rw [← lt_top_iff_ne_top, Finset.fold_max_lt]
  exact ⟨bot_lt_top, fun j _ => lt_top_iff_ne_top.2 (h j)⟩

/-- and is not minus infinity if one of them is not. -/
theorem fold_max_ne_bot {n : ℕ} (f : Fin n → EReal) (j : Fin n) (h : f j ≠ ⊥) : Finset.fold max ⊥ f Finset.univ ≠ ⊥ := by
  rw [← bot_lt_iff_ne_bot, Finset.lt_fold_max]
  exact .inr ⟨j, Finset.mem_univ j, bot_lt_iff_ne_bot.2 h⟩

theorem msk_ne_top (j : ℕ) : msk σ p j ≠ ⊤ := by
  unfold msk
  split_ifs
  · exact EReal.coe_ne_top _
  · exact bot_ne_top

/-- The first key is always seen. -/
theorem msk_zero : msk σ p 0 ≠ ⊥ := by
  rw [msk, if_pos (Nat.zero_le p)]
  exact EReal.coe_ne_bot _

/-- What a block's weights sum to, relative to a real level. -/
theorem block_sum (M : ℝ) (n : ℕ) (x : Fin 512 → EReal) (hx : ∀ j, x j = msk σ p (n + j)) :
    ∑ j : Fin 512, Ideal.exp (x j - (M : EReal)) = ((∑ j ∈ Finset.range 512, wgt σ p M (n + j) : ℝ) : EReal) := by
  rw [coe_sum]
  exact sum_lanes _ _ fun j => by rw [hx, exp_msk]

theorem block_sum_mul (M : ℝ) (n : ℕ) (x y : Fin 512 → EReal) (hx : ∀ j, x j = msk σ p (n + j)) (v : ℕ → ℝ)
    (hy : ∀ j, y j = ((v (n + j) : ℝ) : EReal)) :
    ∑ j : Fin 512, Ideal.exp (x j - (M : EReal)) * y j = ((∑ j ∈ Finset.range 512, wgt σ p M (n + j) * v (n + j) : ℝ) : EReal) := by
  rw [coe_sum]
  exact sum_lanes _ _ fun j => by rw [hx, exp_msk, hy, ← EReal.coe_mul]

/-- One block folded in: the first into nothing, a later one into what the blocks before it left. -/
theorem row_step (v : ℕ → ℕ → ℝ) (n : ℕ) (m l : EReal) (a : Fin 512 → EReal) (x : Fin 512 → EReal) (y : Fin 512 → Fin 512 → EReal)
    (hx : ∀ j, x j = msk σ p (n + j)) (hy : ∀ j d, y j d = ((v (n + j) d : ℝ) : EReal))
    (h : (n = 0 ∧ m = ⊥ ∧ l = 0 ∧ ∀ d, a d = 0) ∨ Row σ p v n m l a) (m' l' : EReal) (a' : Fin 512 → EReal)
    (hm : m' = max m (Finset.fold max ⊥ x Finset.univ))
    (hl : l' = Ideal.exp (m - m') * l + ∑ j : Fin 512, Ideal.exp (x j - m'))
    (ha : ∀ d, a' d = Ideal.exp (m - m') * a d + ∑ j : Fin 512, Ideal.exp (x j - m') * y j d) :
    Row σ p v (n + 512) m' l' a' := by
  have htop : Finset.fold max ⊥ x Finset.univ ≠ ⊤ := fold_max_ne_top x fun j => by rw [hx]; exact msk_ne_top σ p _
  rcases h with ⟨rfl, rfl, rfl, h0⟩ | ⟨M, rfl, rfl, h1⟩
  · have hbot : Finset.fold max ⊥ x Finset.univ ≠ ⊥ := fold_max_ne_bot x 0 (by rw [hx]; exact msk_zero σ p)
    rw [max_eq_right bot_le] at hm
    obtain ⟨M', hM⟩ : ∃ M' : ℝ, m' = M' := ⟨m'.toReal, (EReal.coe_toReal (hm ▸ htop) (hm ▸ hbot)).symm⟩
    refine ⟨M', hM, ?_, fun d => ?_⟩
    · rw [hl, mul_zero, zero_add, hM, block_sum σ p M' 0 x hx]
      simp only [Nat.zero_add]
    · rw [ha, h0, mul_zero, zero_add, hM, block_sum_mul σ p M' 0 x _ hx (fun j => v j d) fun j => hy j d]
      simp only [Nat.zero_add]
  · have hb : m' ≠ ⊥ := by
      rw [hm]; exact ne_bot_of_le_ne_bot (EReal.coe_ne_bot M) (le_max_left _ _)
    have ht : m' ≠ ⊤ := by
      rw [hm, ← lt_top_iff_ne_top]; exact max_lt (EReal.coe_lt_top M) (lt_top_iff_ne_top.2 htop)
    obtain ⟨M', hM⟩ : ∃ M' : ℝ, m' = M' := ⟨m'.toReal, (EReal.coe_toReal ht hb).symm⟩
    have he : Ideal.exp ((M : EReal) - (M' : EReal)) = ((Real.exp (M - M') : ℝ) : EReal) := by
      rw [← EReal.coe_sub]; rfl
    refine ⟨M', hM, ?_, fun d => ?_⟩
    · rw [hl, hM, he, block_sum σ p M' n x hx, ← EReal.coe_mul, ← EReal.coe_add, Finset.mul_sum, Finset.sum_range_add]
      simp only [wgt_shift]
    · rw [ha, h1, hM, he, block_sum_mul σ p M' n x _ hx (fun j => v j d) fun j => hy j d, ← EReal.coe_mul, ← EReal.coe_add,
        Finset.mul_sum, Finset.sum_range_add]
      simp only [← mul_assoc, wgt_shift]

/-- Once all keys up to the position are in, the weighted sum over the sum of the weights is the average. -/
theorem row_ratio (v : ℕ → ℕ → ℝ) (n : ℕ) (hn : p < n) (m l : EReal) (a : Fin 512 → EReal) (h : Row σ p v n m l a) (d : Fin 512) :
    Ideal.div (a d) l = ((avg σ p (v · d) : ℝ) : EReal) := by
  obtain ⟨M, -, rfl, h1⟩ := h
  rw [h1, div_coe _ _ (sum_wgt_ne σ p M n hn), ratio σ p M n hn]

/-! ## All keys at once -/

/-- The average of `v` with the softmax of all `n` masked scores, the level any real. -/
theorem softmax_avg (n : ℕ) (hn : p < n) (M : ℝ) (x y : Fin n → EReal) (hx : ∀ j, x j = msk σ p j) (v : ℕ → ℝ)
    (hy : ∀ j, y j = ((v j : ℝ) : EReal)) :
    ∑ j : Fin n, y j * Ideal.div (Ideal.exp (x j - (M : EReal))) (∑ j : Fin n, Ideal.exp (x j - (M : EReal)))
      = ((avg σ p v : ℝ) : EReal) := by
  have hs : ∑ j : Fin n, Ideal.exp (x j - (M : EReal)) = ((∑ j ∈ Finset.range n, wgt σ p M j : ℝ) : EReal) := by
    rw [coe_sum]
    exact sum_lanes _ _ fun j => by rw [hx, exp_msk]
  rw [hs, ← ratio σ p M n hn, Finset.sum_div]
  refine Eq.trans (sum_lanes _ _ fun j => ?_) (coe_sum _ _).symm
  rw [hx, exp_msk, hy, div_coe _ _ (sum_wgt_ne σ p M n hn), ← EReal.coe_mul]
  congr 1
  ring

/-- The greatest of all `n` masked scores is a real, `n` at least one. -/
theorem level_real (n : ℕ) (hn : 0 < n) (x : Fin n → EReal) (hx : ∀ j, x j = msk σ p j) :
    ∃ M : ℝ, Finset.fold max ⊥ x Finset.univ = (M : EReal) := by
  refine ⟨_, (EReal.coe_toReal ?_ (fold_max_ne_bot x ⟨0, hn⟩ (by rw [hx]; exact msk_zero σ p))).symm⟩
  rw [← lt_top_iff_ne_top, Finset.fold_max_lt]
  exact ⟨bot_lt_top, fun j _ => lt_top_iff_ne_top.2 (by rw [hx]; exact msk_ne_top σ p _)⟩

end Cert.Value.Attn

end
-- ==== Proof.Value.AttnSpec.lean ====
/-
Causal attention with compressed keys, in plain numbers: the score of a query and a key, the softmax-weighted average of
the values over the keys up to the query's position, and its projection by head.
-/
module

public import proofs.«01_k».proof.Proof.Value.Softmax

@[expose] public section

noncomputable section

namespace Cert.Value.Attn

open Idealize.ShloMosaic Idealize.SL.Sem
open Cert.Value

variable (Q : ℕ → ℕ → ℕ → EReal) (K : ℕ → ℕ → EReal)

/-- The score of key `j` for head `h`'s query at position `p` of sequence `b`. -/
def score (b h p j : ℕ) : ℝ := ∑ x ∈ Finset.range 640, (Q h (4096 * b + p) x).toReal * (K (4096 * b + j) x).toReal

/-- Lane `d` of the value of key `j` of sequence `b`. -/
def value (b j d : ℕ) : ℝ := (K (4096 * b + j) d).toReal

/-- The result at row `R` and column `y`: head `y / 128`'s average of the values over the keys up to the row's position,
    projected to column `y % 128`. -/
def attnOut (W : ℕ → ℕ → ℕ → EReal) (R y : ℕ) : EReal := ∑ d ∈ Finset.range 512,
  ((avg (score Q K (R / 4096) (y / 128) (R % 4096)) (R % 4096) (fun j => value K (R / 4096) j d) : ℝ) : EReal)
    * W (y / 128) d (y % 128)

/-- Finite queries and keys have the score as their product. -/
theorem score_coe (hQ : ∀ a b x, (((Q a b x).toReal : ℝ) : EReal) = Q a b x) (hK : ∀ a x, (((K a x).toReal : ℝ) : EReal) = K a x)
    (b h p j : ℕ) : ((score Q K b h p j : ℝ) : EReal) = ∑ x ∈ Finset.range 640, Q h (4096 * b + p) x * K (4096 * b + j) x := by
  rw [score, coe_sum]
  exact Finset.sum_congr rfl fun x _ => by rw [EReal.coe_mul, hQ, hK]

end Cert.Value.Attn

end
-- ==== Proof.Value.AttnKernel.lean ====
/-
The attention kernel's result array. Grid point `t` is key block `t % 8` of query block `t / 8` (of 32 in each of the
two sequences); a key block past the query block is skipped. So after a point the running quantities hold the sums over
the keys of the blocks up to it, and at the last needed key block, which covers every position of the query block, the
normalised rows are the softmax averages that the reference takes over all keys.
-/
module

public import proofs.«01_k».proof.Proof.Flash.Frame
public import proofs.«01_k».proof.Proof.Value.AttnPay
public import proofs.«01_k».proof.Proof.Value.AttnSpec
public import Idealize.ShloMosaic.Lib.Pipeline.ValueKit
public import Idealize.ShloMosaic.Lib.Pipeline.ReadBack

@[expose] public section

set_option maxRecDepth 16384

noncomputable section

namespace Cert.Value.Attn

open Idealize.ShloMosaic Idealize.ShloMosaic.TcCoe Idealize.SL.Sem
open Cert.Value Cert.KernelIdeal Cert.KernelIdeal.Gen Cert.KernelIdeal.Flash

variable (m : (ℓ : Loc nD τ sig) → Buf (Elt Ideal) ℓ)

/-- The queries, by head, row and lane. -/
abbrev Q (c : Dev nD) : ℕ → ℕ → ℕ → EReal := at3 (n0 := 16) (n1 := 8192) (n2 := 640) (m ((c : Thread nD τ).loc main_arg0))
/-- The keys, whose first 512 lanes are the values. -/
abbrev K (c : Dev nD) : ℕ → ℕ → EReal := at2 (n0 := 8192) (n1 := 640) (m ((c : Thread nD τ).loc main_arg1))
/-- The heads' projections. -/
abbrev W (c : Dev nD) : ℕ → ℕ → ℕ → EReal := at3 (n0 := 16) (n1 := 512) (n2 := 128) (m ((c : Thread nD τ).loc main_arg2))

/-- Which block of its array each window holds at point `t`. -/
theorem idx : ∀ t : Fin cfg0.N, win0_0.index t = ![0, t.val / 8, 0]
    ∧ win0_1.index t = ![8 * (t.val / 256) + min (t.val % 8) (t.val / 8 % 32 / 4), 0]
    ∧ win0_2.index t = ![0, 0, 0] ∧ win0_3.index t = ![t.val / 8, 0] :=
  (by decide +kernel : ∀ t : Fin grid0.N, _)

theorem iblk0 (c : Dev nD) (t : Fin cfg0.N) (h : Fin 16) (r : Fin 128) (x : Fin 640) :
    (iblk m c 0 t : FVec Ideal S16x128x640 .bf16) (ix3 h r x) = Q m c h (128 * (t.val / 8) + r) x := by
  have h' := idx t
  have ht : t.val < 512 := lt_of_lt_of_eq t.isLt N_0
  rw [Q, at3, dif_pos ⟨by omega, by omega, by omega⟩]
  blk_ext [iblk, V, h']

theorem iblk1 (c : Dev nD) (t : Fin cfg0.N) (j : Fin 512) (x : Fin 640) :
    (iblk m c 1 t : FVec Ideal S512x640 .bf16) (ix2 j x)
      = K m c (512 * (8 * (t.val / 256) + min (t.val % 8) (t.val / 8 % 32 / 4)) + j) x := by
  have h' := idx t
  have ht : t.val < 512 := lt_of_lt_of_eq t.isLt N_0
  rw [K, at2, dif_pos ⟨by omega, by omega⟩]
  blk_ext [iblk, V, h']

theorem iblk2 (c : Dev nD) (t : Fin cfg0.N) (h : Fin 16) (d : Fin 512) (x : Fin 128) :
    (iblk m c 2 t : FVec Ideal S16x512x128 .bf16) (ix3 h d x) = W m c h d x := by
  have h' := idx t
  rw [W, at3, dif_pos ⟨by omega, by omega, by omega⟩]
  blk_ext [iblk, V, h']

/-- A point's query block and key block, as the body's words. -/
theorem qw_eq (t : Fin cfg0.N) : qw (grid0.coords t) = BitVec.ofNat 32 (t.val / 8 % 32) :=
  congrArg (BitVec.ofNat 32) (Pipeline.Grid.coords_val t 1 (by decide) rfl)
theorem kw_eq (t : Fin cfg0.N) : kw (grid0.coords t) = BitVec.ofNat 32 (t.val % 8) :=
  congrArg (BitVec.ofNat 32) (show (grid0.coords t 2).val = t.val % 8 by
    have e : (grid0.coords t 2).val = t.val / 1 % 8 := Pipeline.Grid.coords_val t 2 (by decide) rfl
    rw [e, Nat.div_one])

section
variable (c : Dev nD) (hQ : ∀ a b x, (((Q m c a b x).toReal : ℝ) : EReal) = Q m c a b x)
  (hK : ∀ a x, (((K m c a x).toReal : ℝ) : EReal) = K m c a x)

include hQ hK in
/-- A needed block's scores are the masked scores of its keys. -/
theorem score_at (t : Fin cfg0.N) (hl : 4 * (t.val % 8) ≤ t.val / 8 % 32) (R : Fin 2048) (j : Fin 512) :
    k0_pay4 (F := Ideal) (qw (grid0.coords t)) (kw (grid0.coords t)) (iblk m c 0 t) (iblk m c 1 t) (ix2 R j)
      = msk (score (Q m c) (K m c) (t.val / 256) (R / 128) (128 * (t.val / 8 % 32) + R % 128)) (128 * (t.val / 8 % 32) + R % 128)
          (512 * (t.val % 8) + j) := by
  have ht : t.val < 512 := lt_of_lt_of_eq t.isLt N_0
  have hmin : min (t.val % 8) (t.val / 8 % 32 / 4) = t.val % 8 := by omega
  rw [qw_eq, kw_eq, score_apply _ _ (by omega) (by omega), msk]
  congr 1
  rw [score_coe _ _ hQ hK]
  refine sum_lanes _ _ fun x => ?_
  rw [iblk0, iblk1, hmin]
  congr 2 <;> (try dsimp only) <;> omega

/-- The running quantities hold the sums over the first `n` keys for every row of query block `qi` of sequence `b`. -/
def Rows (b qi n : ℕ) (s : Carry Ideal) : Prop :=
  ∀ R : Fin 2048, Row (score (Q m c) (K m c) b (R / 128) (128 * qi + R % 128)) (128 * qi + R % 128) (value (K m c) b) n
    (s.m (ix2 R 0)) (s.l (ix2 R 0)) (fun d => s.a (ix2 R d))

include hQ hK in
/-- A needed key block folded into what the blocks before it left. -/
theorem rows_updated (t : Fin cfg0.N) (hl : 4 * (t.val % 8) ≤ t.val / 8 % 32) (s : Carry Ideal)
    (hs : t.val % 8 ≠ 0 → Rows m c (t.val / 256) (t.val / 8 % 32) (512 * (t.val % 8)) s) :
    Rows m c (t.val / 256) (t.val / 8 % 32) (512 * (t.val % 8) + 512)
      (updated (grid0.coords t) (iblk m c 0 t) (iblk m c 1 t) (entered (grid0.coords t) s)) := by
  intro R
  have hmin : min (t.val % 8) (t.val / 8 % 32 / 4) = t.val % 8 := by omega
  unfold updated
  rw [if_pos ((hcond0_1 t).mpr hl)]
  refine row_step _ _ (value (K m c) (t.val / 256)) (512 * (t.val % 8))
    ((entered (grid0.coords t) s).m (ix2 R 0)) ((entered (grid0.coords t) s).l (ix2 R 0)) (fun d => (entered (grid0.coords t) s).a (ix2 R d))
    (fun j => k0_pay4 (F := Ideal) (qw (grid0.coords t)) (kw (grid0.coords t)) (iblk m c 0 t) (iblk m c 1 t) (ix2 R j))
    (fun j d => (iblk m c 1 t : FVec Ideal S512x640 .bf16) (ix2 j ⟨d.val, by omega⟩))
    (fun j => score_at m c hQ hK t hl R j) (fun j d => ?_) ?_ _ _ _
    (max_apply _ _ _ _ _ R) (sum_apply _ _ _ _ _ _ R) (fun d => acc_apply _ _ _ _ _ _ R d)
  · rw [iblk1, hmin, value, hK]
    congr 1
    omega
  · unfold entered
    by_cases h0 : t.val % 8 = 0
    · rw [if_pos ((hcond0_0 t).mpr h0)]
      exact .inl ⟨by omega, fresh_max R, fresh_sum R, fun d => fresh_acc R d⟩
    · rw [if_neg fun h => h0 ((hcond0_0 t).mp h)]
      exact .inr (hs h0 R)

/-- The output block of a query block whose keys are all in is the result at its rows. -/
theorem out_at (t : Fin cfg0.N) (n : ℕ) (hn : 128 * (t.val / 8 % 32) + 127 < n) (s : Carry Ideal)
    (hs : Rows m c (t.val / 256) (t.val / 8 % 32) n s) (r : Fin 128) (y : Fin 2048) :
    outBlock (F := Ideal) s.a s.l (iblk m c 2 t) (ix2 r y) = attnOut (Q m c) (K m c) (W m c) (128 * (t.val / 8) + r) y := by
  have ht : t.val < 512 := lt_of_lt_of_eq t.isLt N_0
  rw [out_apply, attnOut]
  refine sum_lanes _ _ fun d => ?_
  have h := row_ratio _ _ (value (K m c) (t.val / 256)) n (by dsimp only; omega) _ _ _ (hs ⟨128 * (y.val / 128) + r.val, by omega⟩) d
  refine (congrArg₂ (· * ·) h (iblk2 m c t _ _ _)).trans ?_
  dsimp only
  rw [show (128 * (y.val / 128) + r.val) / 128 = y.val / 128 by omega, show (128 * (y.val / 128) + r.val) % 128 = r.val by omega,
    show (128 * (t.val / 8) + r.val) / 4096 = t.val / 256 by omega,
    show (128 * (t.val / 8) + r.val) % 4096 = 128 * (t.val / 8 % 32) + r.val by omega]

include hQ hK in
/-- What is carried after a point: the running sums over the keys of the needed blocks so far, and, once the last needed
    block is in, the result in the output block. -/
theorem carry_at : ∀ (n : ℕ) (hn : n < cfg0.N),
    Rows m c (n / 256) (n / 8 % 32) (512 * min (n % 8) (n / 8 % 32 / 4) + 512) (carry m c (n + 1))
    ∧ (n / 8 % 32 / 4 ≤ n % 8 → ∀ (r : Fin 128) (y : Fin 2048),
        (carry m c (n + 1)).o (ix2 r y) = attnOut (Q m c) (K m c) (W m c) (128 * (n / 8) + r) y) := by
  intro n hn
  have hN : n < 512 := lt_of_lt_of_eq hn N_0
  have ih : n % 8 ≠ 0 → Rows m c (n / 256) (n / 8 % 32) (512 * min (n % 8 - 1) (n / 8 % 32 / 4) + 512) (carry m c n)
      ∧ (n / 8 % 32 / 4 ≤ n % 8 - 1 → ∀ (r : Fin 128) (y : Fin 2048),
        (carry m c n).o (ix2 r y) = attnOut (Q m c) (K m c) (W m c) (128 * (n / 8) + r) y) := by
    intro h0
    obtain ⟨k, rfl⟩ : ∃ k, n = k + 1 := ⟨n - 1, by omega⟩
    have h := carry_at k (by omega)
    rw [show (k + 1) / 256 = k / 256 by omega, show (k + 1) / 8 = k / 8 by omega, show (k + 1) % 8 - 1 = k % 8 by omega]
    exact h
  have hstep := carry_succ m c ⟨n, hn⟩
  dsimp only at hstep
  have h1 := hcond0_1 ⟨n, hn⟩
  have h2 := hcond0_2 ⟨n, hn⟩
  dsimp only at h1 h2
  by_cases hl : 4 * (n % 8) ≤ n / 8 % 32
  · have hu := rows_updated m c hQ hK ⟨n, hn⟩ hl (carry m c n) fun h0 => by
      dsimp only at h0 ⊢
      have := (ih h0).1
      rw [show 512 * min (n % 8 - 1) (n / 8 % 32 / 4) + 512 = 512 * (n % 8) by omega] at this
      exact this
    dsimp only at hu
    rw [show min (n % 8) (n / 8 % 32 / 4) = n % 8 by omega, hstep]
    unfold step stored
    by_cases hc : n / 8 % 32 ≤ 4 * (n % 8) + 3
    · rw [if_pos (h2.mpr ⟨hl, hc⟩)]
      exact ⟨hu, fun _ r y => out_at m c ⟨n, hn⟩ _ (by dsimp only; omega) _ hu r y⟩
    · rw [if_neg fun h => hc (h2.mp h).2]
      exact ⟨hu, fun h => absurd h (by omega)⟩
  · have h0 : n % 8 ≠ 0 := by omega
    rw [hstep]
    unfold step stored updated entered
    rw [if_neg fun h => hl (h2.mp h).1, if_neg fun h => hl (h1.mp h), if_neg fun h => h0 ((hcond0_0 ⟨n, hn⟩).mp h)]
    obtain ⟨ha, hb⟩ := ih h0
    rw [show min (n % 8 - 1) (n / 8 % 32 / 4) = min (n % 8) (n / 8 % 32 / 4) by omega] at ha
    exact ⟨ha, fun _ => hb (by omega)⟩

/-- The result array after the run, element by element. -/
def out : FVec Ideal S8192x2048 .bf16 := fun i => attnOut (Q m c) (K m c) (W m c) (i 0).val (i 1).val

include hQ hK in
/-- The array after the run is `out`. -/
theorem final : (dats m 0 c).arrAt 3 cfg0.N = out m c := by
  refine (dats m 0 c).arrAt_eq_of_covers 3 _ (by decide +kernel) fun t hf y => ?_
  have hm : t.val % 8 = 7 := (flush0_3 t).mp hf
  blk_simp
  rw [after0_3]
  idx_vars y
  rw [(carry_at m c hQ hK t.val t.isLt).2 (by omega) y0 y1]
  have h := idx t
  unfold out
  blk_simp [h]
  rw [Nat.mul_comm (t.val / 8) 128]

end

end Cert.Value.Attn

end
-- ==== Proof.Value.AttnRef.lean ====
/-
The reference of the attention call, read at one element: the softmax of all masked scores of a query, the average of
the values it weighs, and the average's projection by head.
-/
module

public import proofs.«01_k».proof.Proof.Gen.ReferenceIdeal.Run
public import proofs.«01_k».proof.Proof.Value.AttnSpec
public import Idealize.ShloMosaic.Lib.WordCmp

@[expose] public section

set_option maxRecDepth 16384

noncomputable section

namespace Cert.Value.Attn

open Idealize.ShloMosaic Idealize.ShloMosaic.TcCoe Idealize.SL.Sem
open Cert.Value Cert.ReferenceIdeal Cert.ReferenceIdeal.Gen

/-- The reference's queries by sequence, position and head. -/
def refQ (q : FVec Ideal S16x8192x640 .bf16) : FVec Ideal S2x4096x16x640 .f32 :=
  transpose S2x4096x16x640 [1, 2, 0, 3] (shapeCast _ (extf .f32 q bitsLt_bf16_f32) shapeCasts_S16x8192x640_S16x2x4096x640)
    transposes_S16x2x4096x640_S2x4096x16x640_1_2_0_3

/-- The reference's keys by sequence and position. -/
def refK (k : FVec Ideal S8192x640 .bf16) : FVec Ideal S2x4096x640 .f32 :=
  shapeCast _ (extf .f32 k bitsLt_bf16_f32) shapeCasts_S8192x640_S2x4096x640

/-- The reference's values: the first 512 lanes of the keys. -/
def refC (k : FVec Ideal S8192x640 .bf16) : FVec Ideal S2x4096x512 .f32 :=
  extractStridedSlice S2x4096x512 ![0, 0, 0] (refK k) slices_S2x4096x640_S2x4096x512_0_0_0

/-- The reference's scores: the product over the first 512 lanes plus the product over the last 128. -/
def refS (q : FVec Ideal S16x8192x640 .bf16) (k : FVec Ideal S8192x640 .bf16) : FVec Ideal S2x16x4096x4096 .f32 :=
  addf (transpose S2x16x4096x4096 [0, 3, 2, 1] (Host.dotGeneral dot_S2x4096x512_S2x4096x16x512_S2x4096x4096x16_2_3_1_12_0_0 none (refC k)
      (extractStridedSlice S2x4096x16x512 ![0, 0, 0, 0] (refQ q) slices_S2x4096x16x640_S2x4096x16x512_0_0_0_0))
      transposes_S2x4096x4096x16_S2x16x4096x4096_0_3_2_1)
    (transpose S2x16x4096x4096 [0, 3, 2, 1] (Host.dotGeneral dot_S2x4096x128_S2x4096x16x128_S2x4096x4096x16_2_3_1_12_0_0 none
      (extractStridedSlice S2x4096x128 ![0, 0, 512] (refK k) slices_S2x4096x640_S2x4096x128_0_0_512)
      (extractStridedSlice S2x4096x16x128 ![0, 0, 0, 512] (refQ q) slices_S2x4096x16x640_S2x4096x16x128_0_0_0_512))
      transposes_S2x4096x4096x16_S2x16x4096x4096_0_3_2_1)

/-- The reference's scores with minus infinity past the query's position. -/
def refM (q : FVec Ideal S16x8192x640 .bf16) (k : FVec Ideal S8192x640 .bf16) : FVec Ideal S2x16x4096x4096 .f32 :=
  select (broadcastInDim S2x16x4096x4096 ![2, 3] bcast_S4096x4096_S2x16x4096x4096_2_3 (cmpi .sle
      (broadcastInDim S4096x4096 ![0, 1] bcast_S1x4096_S4096x4096_0_1 (broadcastInDim S1x4096 ![1] bcast_S4096_S1x4096_1 (iotaInDim S4096 32 0)))
      (broadcastInDim S4096x4096 ![0, 1] bcast_S4096x1_S4096x4096_0_1 (broadcastInDim S4096x1 ![0] bcast_S4096_S4096x1_0 (iotaInDim S4096 32 0)))))
    (refS q k) (broadcastInDim S2x16x4096x4096 ![] bcast_S_S2x16x4096x4096 (id (constant S_ .f32 0xFF800000#32)))

/-- The largest score of each query. -/
def refL (s : FVec Ideal S2x16x4096x4096 .f32) : FVec Ideal S2x16x4096 .f32 :=
  maximumf (broadcastInDim S2x16x4096 ![] bcast_S_S2x16x4096 (constant S_ .f32 0xFF800000#32))
    (Host.reduce FloatOps.maximumf s (constant S_ .f32 0xFF800000#32) reducesTo_S2x16x4096x4096_S2x16x4096_d3 h_S_)

/-- The exponentials of the scores `s`, relative to the levels `l`. -/
def refE (s : FVec Ideal S2x16x4096x4096 .f32) (l : FVec Ideal S2x16x4096 .f32) : FVec Ideal S2x16x4096x4096 .f32 :=
  Host.exp (subf s (broadcastInDim S2x16x4096x4096 ![0, 1, 2, 3] bcast_S2x16x4096x1_S2x16x4096x4096_0_1_2_3
    (broadcastInDim S2x16x4096x1 ![0, 1, 2] bcast_S2x16x4096_S2x16x4096x1_0_1_2 l)))

/-- The weights `e` divided by their sum over the keys. -/
def refN (e : FVec Ideal S2x16x4096x4096 .f32) : FVec Ideal S2x16x4096x4096 .f32 :=
  Host.divf e (broadcastInDim S2x16x4096x4096 ![0, 1, 2, 3] bcast_S2x16x4096x1_S2x16x4096x4096_0_1_2_3
    (broadcastInDim S2x16x4096x1 ![0, 1, 2] bcast_S2x16x4096_S2x16x4096x1_0_1_2
      (Host.reduceAdd e (constant S_ .f32 0x00000000#32) reducesTo_S2x16x4096x4096_S2x16x4096_d3 h_S_)))

/-- The softmax of the scores. -/
def refP (s : FVec Ideal S2x16x4096x4096 .f32) : FVec Ideal S2x16x4096x4096 .f32 := refN (refE s (refL s))

/-- The averages of the values. -/
def refCtx (k : FVec Ideal S8192x640 .bf16) (p : FVec Ideal S2x16x4096x4096 .f32) : FVec Ideal S2x4096x16x512 .f32 :=
  transpose S2x4096x16x512 [0, 3, 2, 1] (Host.dotGeneral dot_S2x4096x512_S2x16x4096x4096_S2x512x16x4096_1_3_2_12_0_0 none (refC k) p)
    transposes_S2x512x16x4096_S2x4096x16x512_0_3_2_1

/-- The averages `x` projected by head. -/
def refOut (w : FVec Ideal S16x512x128 .bf16) (x : FVec Ideal S2x4096x16x512 .f32) :
    FVec Ideal S8192x2048 .bf16 :=
  truncf .bf16 (shapeCast _ (transpose S2x4096x16x128 [2, 3, 0, 1]
    (Host.dotGeneral dot_S16x512x128_S2x4096x16x512_S16x128x2x4096_1_3_2_01_0_2 none (extf .f32 w bitsLt_bf16_f32) x)
    transposes_S16x128x2x4096_S2x4096x16x128_2_3_0_1) shapeCasts_S2x4096x16x128_S8192x2048) bitsLt_bf16_f32

/-- The reference's composed term over its three arguments. -/
def refTerm (q : FVec Ideal S16x8192x640 .bf16) (k : FVec Ideal S8192x640 .bf16) (w : FVec Ideal S16x512x128 .bf16) :
    FVec Ideal S8192x2048 .bf16 := refOut w (refCtx k (refP (refM q k)))

/-- The run's result term is `refTerm` of the arguments. -/
theorem res_eq (m : (ℓ : Loc nD τ sig) → Buf (Elt Ideal) ℓ) (c : Dev nD) :
    Cert.ReferenceIdeal.Value.res_main_v38 m c = refTerm (m ((c.tc : Thread nD τ).loc main_arg0)) (m ((c.tc : Thread nD τ).loc main_arg1))
      (m ((c.tc : Thread nD τ).loc main_arg2)) := rfl

/-! ## One element of each -/

theorem refQ_apply (q : FVec Ideal S16x8192x640 .bf16) (b : Fin 2) (p : Fin 4096) (h : Fin 16) (x : Fin 640) :
    refQ q (ix4 b p h x) = at3 q h (4096 * b + p) x := by
  pointwise [refQ]
  rw [at3, dif_pos ⟨by omega, by omega, by omega⟩]
  congr 2
  exact Fin.ext (by dsimp only; omega)

theorem refK_apply (k : FVec Ideal S8192x640 .bf16) (b : Fin 2) (j : Fin 4096) (x : Fin 640) :
    refK k (ix3 b j x) = at2 k (4096 * b + j) x := by
  pointwise [refK]
  rw [at2, dif_pos ⟨by omega, by omega⟩]
  congr 2
  exact Fin.ext (by dsimp only; omega)

/-- A score is the product over all 640 lanes. -/
theorem refS_apply (q : FVec Ideal S16x8192x640 .bf16) (k : FVec Ideal S8192x640 .bf16) (b : Fin 2) (h : Fin 16) (p j : Fin 4096) :
    refS q k (ix4 b h p j) = ∑ x ∈ Finset.range 640, at3 q h (4096 * b + p) x * at2 k (4096 * b + j) x := by
  pointwise [refS, refC]
  simp only [refQ_apply, refK_apply]
  refine Eq.trans ?_ (Finset.sum_range_add (fun x => at3 q h (4096 * b + p) x * at2 k (4096 * b + j) x) 512 128).symm
  refine congrArg₂ (· + ·) (sum_lanes _ _ fun x => ?_) (sum_lanes _ _ fun x => ?_)
  · exact mul_comm _ _
  · exact mul_comm _ _

/-- A masked score. -/
theorem refM_apply (q : FVec Ideal S16x8192x640 .bf16) (k : FVec Ideal S8192x640 .bf16) (b : Fin 2) (h : Fin 16) (p j : Fin 4096) :
    refM q k (ix4 b h p j) = if j.val ≤ p.val then refS q k (ix4 b h p j) else ⊥ := by
  pointwise [refM]
  rw [WordCmp.cmpi_sle_ofNat (by omega) (by omega),
    show (id (constant S_ .f32 0xFF800000#32) : FVec Ideal S_ .f32) ix0 = ⊥ from ofBits_neg_inf]
  unfold Scalar.select
  split_ifs <;> simp_all

/-- The largest of a row of scores, from any initial value. -/
theorem reduce_max_apply (s : FVec Ideal S2x16x4096x4096 .f32) (z : FVec Ideal S_ .f32) (b : Fin 2) (h : Fin 16) (p : Fin 4096) :
    Host.reduce FloatOps.maximumf s z reducesTo_S2x16x4096x4096_S2x16x4096_d3 h_S_ (ix3 b h p)
      = Finset.fold max (z (Shape.Idx.first h_S_)) (fun j : Fin 4096 => s (ix4 b h p j)) Finset.univ :=
  (Host.reduce_eq_fold _ _ _ _ _ _).trans (Shape.ReducesTo.fold_fiber_r4_a3 (n0 := 2) (n1 := 16) (n2 := 4096) (n3 := 4096)
    reducesTo_S2x16x4096x4096_S2x16x4096_d3 (ix3 b h p) max (z (Shape.Idx.first h_S_)) s)

/-- The larger of minus infinity and a value is the value. -/
theorem max_neg_inf_apply (z : FVec Ideal S2x16x4096 .f32) (b : Fin 2) (h : Fin 16) (p : Fin 4096) :
    maximumf (broadcastInDim S2x16x4096 ![] bcast_S_S2x16x4096 (constant S_ .f32 0xFF800000#32)) z (ix3 b h p) = z (ix3 b h p) := by
  pointwise []
  rw [ofBits_neg_inf]
  exact max_eq_right bot_le

/-- A query's level. -/
theorem refL_apply (s : FVec Ideal S2x16x4096x4096 .f32) (b : Fin 2) (h : Fin 16) (p : Fin 4096) :
    refL s (ix3 b h p) = Finset.fold max ⊥ (fun j : Fin 4096 => s (ix4 b h p j)) Finset.univ := by
  refine (max_neg_inf_apply _ b h p).trans ((reduce_max_apply _ _ b h p).trans ?_)
  rw [show (constant S_ .f32 0xFF800000#32 : FVec Ideal S_ .f32) (Shape.Idx.first h_S_) = ⊥ from ofBits_neg_inf]

/-- A weight. -/
theorem refE_apply (s : FVec Ideal S2x16x4096x4096 .f32) (l : FVec Ideal S2x16x4096 .f32) (b : Fin 2) (h : Fin 16) (p j : Fin 4096) :
    refE s l (ix4 b h p j) = Ideal.exp (s (ix4 b h p j) - l (ix3 b h p)) := by
  pointwise [refE]

/-- A normalised weight. -/
theorem refN_apply (e : FVec Ideal S2x16x4096x4096 .f32) (b : Fin 2) (h : Fin 16) (p j : Fin 4096) :
    refN e (ix4 b h p j) = Ideal.div (e (ix4 b h p j)) (∑ i : Fin 4096, e (ix4 b h p i)) := by
  pointwise [refN]

/-- An average of values. -/
theorem refCtx_apply (k : FVec Ideal S8192x640 .bf16) (P : FVec Ideal S2x16x4096x4096 .f32) (b : Fin 2) (p : Fin 4096) (h : Fin 16) (d : Fin 512) :
    refCtx k P (ix4 b p h d) = ∑ j : Fin 4096, at2 k (4096 * b + j) d * P (ix4 b h p j) := by
  pointwise [refCtx, refC]
  simp only [refK_apply]

/-- A projected average. -/
theorem refOut_apply (w : FVec Ideal S16x512x128 .bf16) (x : FVec Ideal S2x4096x16x512 .f32) (r : Fin 8192) (y : Fin 2048) :
    refOut w x (ix2 r y) = ∑ d : Fin 512, w (ix3 ⟨y.val / 128, by omega⟩ d ⟨y.val % 128, by omega⟩)
      * x (ix4 ⟨r.val / 4096, by omega⟩ ⟨r.val % 4096, by omega⟩ ⟨y.val / 128, by omega⟩ d) := by
  pointwise [refOut]

/-! ## The whole term -/

/-- Finite queries and keys have finite scores, so every level is a number and the softmax is the weighted average. -/
theorem refCtx_avg (q : FVec Ideal S16x8192x640 .bf16) (k : FVec Ideal S8192x640 .bf16)
    (hQ : ∀ a b x, (((at3 q a b x).toReal : ℝ) : EReal) = at3 q a b x) (hK : ∀ a x, (((at2 k a x).toReal : ℝ) : EReal) = at2 k a x)
    (b : Fin 2) (p : Fin 4096) (h : Fin 16) (d : Fin 512) :
    refCtx k (refP (refM q k)) (ix4 b p h d)
      = ((avg (score (at3 q) (at2 k) b h p) p (fun j => value (at2 k) b j d) : ℝ) : EReal) := by
  have hx : ∀ j : Fin 4096, refM q k (ix4 b h p j) = msk (score (at3 q) (at2 k) b h p) p j := fun j => by
    rw [refM_apply, refS_apply, msk, score_coe _ _ hQ hK]
  obtain ⟨M, hM⟩ := level_real _ p.val 4096 (by omega) (fun j : Fin 4096 => refM q k (ix4 b h p j)) hx
  have hL : refL (refM q k) (ix3 b h p) = (M : EReal) := (refL_apply _ b h p).trans hM
  rw [refCtx_apply, ← softmax_avg _ p.val 4096 p.isLt M (fun j : Fin 4096 => refM q k (ix4 b h p j)) (fun j => at2 k (4096 * b + j) d) hx
    (fun j => value (at2 k) b j d) fun j => (hK _ _).symm]
  unfold refP
  simp only [refN_apply, refE_apply, hL]

/-- The reference's term at one element is `attnOut` of the arguments' elements, the queries and keys finite. -/
theorem refTerm_apply (q : FVec Ideal S16x8192x640 .bf16) (k : FVec Ideal S8192x640 .bf16) (w : FVec Ideal S16x512x128 .bf16)
    (hQ : ∀ a b x, (((at3 q a b x).toReal : ℝ) : EReal) = at3 q a b x) (hK : ∀ a x, (((at2 k a x).toReal : ℝ) : EReal) = at2 k a x)
    (r : Fin 8192) (y : Fin 2048) :
    refTerm q k w (ix2 r y) = attnOut (at3 q) (at2 k) (at3 w) r y := by
  unfold refTerm
  rw [refOut_apply, attnOut]
  refine sum_lanes _ _ fun d => ?_
  rw [refCtx_avg q k hQ hK, at3_ix w]
  exact mul_comm _ _

end Cert.Value.Attn

end
-- ==== Proof.Value.Attn.lean ====
/-
The attention call: over the extended reals the kernel's result array and the reference's are equal when every query
and key is finite. With an infinite score they differ: the running rescaling of the kernel loses what it had summed,
where the reference divides nothing by nothing.
-/
module

public import proofs.«01_k».proof.Defs
public import proofs.«01_k».proof.Proof.Gen.Pre_finite
public import proofs.«01_k».proof.Proof.Value.AttnKernel
public import proofs.«01_k».proof.Proof.Value.AttnRef
public import Idealize.ShloMosaic.Lib.Claim
public import Idealize.ShloMosaic.Lib.ReduceAll

@[expose] public section

set_option maxRecDepth 16384

noncomputable section

namespace Cert.Value.Attn

open Idealize.ShloMosaic Idealize.ShloMosaic.TcCoe Idealize.SL.Sem
open Cert.Value

/-- A number whose absolute value is below plus infinity is neither infinity. -/
theorem coe_of_abs_lt (x : EReal) (h : Ideal.cmp .olt (max x (-x)) (Ideal.ofBits FTy.f32 0x7F800000#32) = 1#1) :
    ((x.toReal : ℝ) : EReal) = x := by
  rw [ofBits_inf] at h
  refine EReal.coe_toReal (fun hx => ?_) (fun hx => ?_)
  · rw [hx] at h
    simp [Ideal.cmp] at h
  · rw [hx] at h
    simp [Ideal.cmp] at h

/-- The precondition: every query and every key is finite. -/
theorem finite_args (m : (ℓ : Loc Cert.KernelIdeal.nD Cert.KernelIdeal.τ Cert.KernelIdeal.sig) → Buf (Elt Ideal) ℓ)
    (h : Cert.Pre_KernelIdeal_finite (hPre_finite := Cert.Pre_finite.Gen.facts) m) (c : Dev Cert.KernelIdeal.nD) :
    (∀ a b x, (((Q m c a b x).toReal : ℝ) : EReal) = Q m c a b x) ∧ (∀ a x, (((K m c a x).toReal : ℝ) : EReal) = K m c a x) := by
  have h0 := congrFun (h c) ix0
  obtain ⟨h1, h2⟩ := IntOp.andi_eq_one.1 h0
  refine ⟨fun a b x => ?_, fun a x => ?_⟩
  · by_cases hi : a < 16 ∧ b < 8192 ∧ x < 640
    · rw [Q, at3, dif_pos hi]
      exact coe_of_abs_lt _ (Host.reduce_andi_all _ _ _ _ _ h1 (ix3 ⟨a, hi.1⟩ ⟨b, hi.2.1⟩ ⟨x, hi.2.2⟩))
    · rw [Q, at3, dif_neg hi]
      exact congrArg _ EReal.toReal_zero
  · by_cases hi : a < 8192 ∧ x < 640
    · rw [K, at2, dif_pos hi]
      exact coe_of_abs_lt _ (Host.reduce_andi_all _ _ _ _ _ h2 (ix2 ⟨a, hi.1⟩ ⟨x, hi.2⟩))
    · rw [K, at2, dif_neg hi]
      exact congrArg _ EReal.toReal_zero

/-- The kernel's array and the reference's are one function of the arguments. -/
theorem attn_eq (m : (ℓ : Loc Cert.KernelIdeal.nD Cert.KernelIdeal.τ Cert.KernelIdeal.sig) → Buf (Elt Ideal) ℓ)
    (c : Dev Cert.KernelIdeal.nD) (hQ : ∀ a b x, (((Q m c a b x).toReal : ℝ) : EReal) = Q m c a b x)
    (hK : ∀ a x, (((K m c a x).toReal : ℝ) : EReal) = K m c a x) :
    refTerm (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) = out m c := by
  funext i
  idx_vars i
  exact refTerm_apply _ _ _ hQ hK i0 i1

/-- The attention kernel computes what its reference computes, under the precondition. -/
theorem attn_algebraic : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  pair_intro
  · run_from Cert.KernelIdeal.Flash.run_main m g
  · run_from Cert.ReferenceIdeal.Value.run m' g'
    obtain ⟨a0, a1, a2⟩ := hagree c
    obtain ⟨hQ, hK⟩ := finite_args m hpre c
    refine (res_eq m' c).trans ?_
    rw [a0, a1, a2]
    exact (attn_eq m c hQ hK).trans (final m c hQ hK).symm

/-- The reference runs, leaves its arguments as they were and every semaphore at zero. -/
theorem attn_reference_frame : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The mask's fill stands for minus infinity. -/
theorem attn_preserves : Cert.preserves_Kernel_KernelIdeal :=
  IdealRules.named_const.statement Cert.KernelIdeal.κ "mask" .f32 0xF149F2CA#32 ⊥ rfl

end Cert.Value.Attn

end
-- ==== Proof.Value.MoeKernel.lean ====
/-
The routed feed-forward kernel's result array. Grid point `t` is step `t % 88` of row block `t / 88`: step `11 e + f`
adds, for expert `e`, the contraction over 256 of its 2816 gated lanes, each lane scaled by the row's weight for `e`.
So after step `s` the result block holds the rows plus the first `256 * (s + 1)` of the `8 * 2816` scaled lanes, and
the last step normalises the total.
-/
module

public import proofs.«01_k».proof.Proof.Gen.Kernel2Ideal.Value
public import proofs.«01_k».proof.Proof.Value.Math
public import Idealize.ShloMosaic.Lib.Pipeline.ValueKit
public import Idealize.ShloMosaic.Lib.Pipeline.ReadBack

@[expose] public section

set_option maxRecDepth 16384

noncomputable section

namespace Cert.Value

/-- Gated lane `l` of expert `e` for one row. -/
def expertLane (x g : ℕ → EReal) (w : ℕ → ℕ → ℕ → EReal) (e l : ℕ) : EReal :=
  swish (∑ k ∈ Finset.range 2048, rms x g k * w e k l) * ∑ k ∈ Finset.range 2048, rms x g k * w e k (2816 + l)

/-- The contribution of scaled lane `u` (expert `u / 2816`, lane `u % 2816`) to column `j` of one row. -/
def scaledLane (x g p : ℕ → EReal) (w d : ℕ → ℕ → ℕ → EReal) (j u : ℕ) : EReal :=
  expertLane x g w (u / 2816) (u % 2816) * p (u / 2816) * d (u / 2816) (u % 2816) j

namespace Moe

open Idealize.ShloMosaic Idealize.ShloMosaic.TcCoe Idealize.SL.Sem
open Cert.Value Cert.Kernel2Ideal Cert.Kernel2Ideal.Gen

/-- The last step's normalisation. -/
theorem pay2_apply (x : FVec Ideal S512x2048 .f32) (g : FVec Ideal S1x2048 .f32) (r : Fin 512) (k : Fin 2048) :
    k0_pay2 (F := Ideal) x g (ix2 r k) = rms (at2 x r) (at2 g 0) k := by
  pointwise [k0_pay2]
  rw [rms, sum_lanes _ (fun l => at2 x r l * at2 x r l) fun l => by rw [at2_ix x], at2_ix g, at2_ix x]
  rfl

variable (m : (ℓ : Loc nD τ sig) → Buf (Elt Ideal) ℓ)

/-- The rows, as a matrix. -/
abbrev X (c : Dev nD) : ℕ → ℕ → EReal := at2 (n0 := 8192) (n1 := 2048) (m ((c : Thread nD τ).loc main_arg0))
/-- The first gain. -/
abbrev G (c : Dev nD) : ℕ → EReal := at2 (n0 := 1) (n1 := 2048) (m ((c : Thread nD τ).loc main_arg1)) 0
/-- The rows' weights for the experts. -/
abbrev P (c : Dev nD) : ℕ → ℕ → EReal := at2 (n0 := 8192) (n1 := 8) (m ((c : Thread nD τ).loc main_arg2))
/-- The experts' first projections, both halves. -/
abbrev W (c : Dev nD) : ℕ → ℕ → ℕ → EReal := at3 (n0 := 8) (n1 := 2048) (n2 := 5632) (m ((c : Thread nD τ).loc main_arg3))
/-- The experts' second projections. -/
abbrev D (c : Dev nD) : ℕ → ℕ → ℕ → EReal := at3 (n0 := 8) (n1 := 2816) (n2 := 2048) (m ((c : Thread nD τ).loc main_arg4))
/-- The last gain. -/
abbrev H (c : Dev nD) : ℕ → EReal := at2 (n0 := 1) (n1 := 2048) (m ((c : Thread nD τ).loc main_arg5)) 0

/-- Which block of its array each window holds at point `t`. -/
theorem idx : ∀ t : Fin cfg0.N, win0_0.index t = ![t.val / 88, 0] ∧ win0_1.index t = ![0, 0]
    ∧ win0_2.index t = ![t.val / 88, 0]
    ∧ win0_3.index t = ![t.val / 11 % 8, 0, t.val % 11] ∧ win0_4.index t = ![t.val / 11 % 8, 0, 11 + t.val % 11]
    ∧ win0_5.index t = ![t.val / 11 % 8, t.val % 11, 0] ∧ win0_6.index t = ![0, 0] ∧ win0_7.index t = ![t.val / 88, 0] :=
  (by decide +kernel : ∀ t : Fin grid0.N, _)

theorem iblk0 (c : Dev nD) (t : Fin cfg0.N) (r : Fin 512) (k : Fin 2048) :
    (iblk m c 0 t : FVec Ideal S512x2048 .f32) (ix2 r k) = X m c (512 * (t.val / 88) + r) k := by
  have h := idx t
  have ht : t.val < 1408 := lt_of_lt_of_eq t.isLt N_0
  rw [X, at2, dif_pos ⟨by omega, by omega⟩]
  blk_ext [iblk, V, h]

theorem iblk1 (c : Dev nD) (t : Fin cfg0.N) (k : Fin 2048) :
    (iblk m c 1 t : FVec Ideal S1x2048 .f32) (ix2 0 k) = G m c k := by
  have h := idx t
  rw [G, at2, dif_pos ⟨by omega, by omega⟩]
  blk_ext [iblk, V, h]

theorem iblk2 (c : Dev nD) (t : Fin cfg0.N) (r : Fin 512) (e : Fin 8) :
    (iblk m c 2 t : FVec Ideal S512x8 .f32) (ix2 r e) = P m c (512 * (t.val / 88) + r) e := by
  have h := idx t
  have ht : t.val < 1408 := lt_of_lt_of_eq t.isLt N_0
  rw [P, at2, dif_pos ⟨by omega, by omega⟩]
  blk_ext [iblk, V, h]

theorem iblk3 (c : Dev nD) (t : Fin cfg0.N) (k : Fin 2048) (l : Fin 256) :
    (iblk m c 3 t : FVec Ideal S1x2048x256 .bf16) (ix3 0 k l) = W m c (t.val / 11 % 8) k (256 * (t.val % 11) + l) := by
  have h := idx t
  rw [W, at3, dif_pos ⟨by omega, by omega, by omega⟩]
  blk_ext [iblk, V, h]

theorem iblk4 (c : Dev nD) (t : Fin cfg0.N) (k : Fin 2048) (l : Fin 256) :
    (iblk m c 4 t : FVec Ideal S1x2048x256 .bf16) (ix3 0 k l)
      = W m c (t.val / 11 % 8) k (2816 + (256 * (t.val % 11) + l)) := by
  have h := idx t
  rw [W, at3, dif_pos ⟨by omega, by omega, by omega⟩]
  blk_ext [iblk, V, h]

theorem iblk5 (c : Dev nD) (t : Fin cfg0.N) (l : Fin 256) (k : Fin 2048) :
    (iblk m c 5 t : FVec Ideal S1x256x2048 .bf16) (ix3 0 l k) = D m c (t.val / 11 % 8) (256 * (t.val % 11) + l) k := by
  have h := idx t
  rw [D, at3, dif_pos ⟨by omega, by omega, by omega⟩]
  blk_ext [iblk, V, h]

theorem iblk6 (c : Dev nD) (t : Fin cfg0.N) (k : Fin 2048) :
    (iblk m c 6 t : FVec Ideal S1x2048 .f32) (ix2 0 k) = H m c k := by
  have h := idx t
  rw [H, at2, dif_pos ⟨by omega, by omega⟩]
  blk_ext [iblk, V, h]

/-- The normalisation a point's rows would give is the row block's, whatever the step. -/
theorem norm_at (c : Dev nD) (t : Fin cfg0.N) (r : Fin 512) (k : Fin 2048) :
    k0_pay3 (F := Ideal) (iblk m c 0 t) (iblk m c 1 t) (ix2 r k) = rms (X m c (512 * (t.val / 88) + r)) (G m c) k := by
  pointwise [k0_pay3]
  simp only [iblk0, iblk1]
  exact congrArg (fun s => X m c _ _ * Ideal.rsqrt (Ideal.div s _ + _) * G m c k) (sum_lanes _ _ fun _ => rfl)

/-- The row's weight for the point's expert, picked out of the row's eight by comparing lanes with the expert's number. -/
theorem pick (f : Fin 8 → EReal) (e : Fin 8) :
    ∑ x : Fin 8, Scalar.select (IntOp.cmpi CmpIPredicate.eq (BitVec.ofNat 32 x.val) (BitVec.ofNat 32 e.val)) (f x) 0 = f e := by
  rw [Finset.sum_eq_single e]
  · simp [Scalar.select, IntOp.cmpi]
  · intro x _ hx
    have : BitVec.ofNat 32 x.val ≠ BitVec.ofNat 32 e.val := fun h => hx (Fin.ext (by
      have := congrArg BitVec.toNat h
      simp only [BitVec.toNat_ofNat] at this
      omega))
    simp [Scalar.select, IntOp.cmpi, beq_eq_false_iff_ne.2 this]
  · exact fun h => absurd (Finset.mem_univ e) h

/-- What step `t` adds at row `r` and column `k` when the scratch holds the normalised rows. -/
theorem step_at (c : Dev nD) (t : Fin cfg0.N) (x : FVec Ideal S512x2048 .bf16) (o : FVec Ideal S512x2048 .f32)
    (hx : ∀ (r : Fin 512) (k : Fin 2048), x (ix2 r k) = rms (X m c (512 * (t.val / 88) + r)) (G m c) k)
    (r : Fin 512) (k : Fin 2048) :
    k0_pay1 (F := Ideal) (k0_pay4 (grid0.coords t) x (iblk m c 2 t) (iblk m c 3 t) (iblk m c 4 t)) (k0_pay5 o)
        (iblk m c 5 t) (ix2 r k) = o (ix2 r k)
      + ∑ l ∈ Finset.range 256, scaledLane (X m c (512 * (t.val / 88) + r)) (G m c) (P m c (512 * (t.val / 88) + r))
          (W m c) (D m c) k (256 * (t.val % 88) + l) := by
  have ht : t.val < 1408 := lt_of_lt_of_eq t.isLt N_0
  have e1 : (grid0.coords t 1).val = t.val / 11 % 8 := Pipeline.Grid.coords_val t 1 (by decide) rfl
  pointwise [k0_pay1, k0_pay4, k0_pay5]
  refine congrArg (o (ix2 r k) + ·) (sum_lanes _ _ fun l => ?_)
  refine (congrArg (· * _) (congrArg (_ * ·) ((pick _ (grid0.coords t 1)).trans
    (iblk2 m c t r (grid0.coords t 1))))).trans ?_
  have hq : (256 * (t.val % 88) + l.val) / 2816 = t.val / 11 % 8 := by omega
  have hr : (256 * (t.val % 88) + l.val) % 2816 = 256 * (t.val % 11) + l.val := by omega
  simp only [hx, iblk3, iblk4, iblk5, zero_sub, e1]
  rw [scaledLane, hq, hr, expertLane]
  rw [Finset.sum_range, Finset.sum_range]
  rfl

/-- The rows plus the first `n` scaled lanes. -/
def acc (c : Dev nD) (r n j : ℕ) : EReal :=
  X m c r j + ∑ u ∈ Finset.range n, scaledLane (X m c r) (G m c) (P m c r) (W m c) (D m c) j u

/-- A step's addition takes the accumulated lanes 256 further. -/
theorem acc_add (c : Dev nD) (t : Fin cfg0.N) (x : FVec Ideal S512x2048 .bf16) (o : FVec Ideal S512x2048 .f32)
    (hx : ∀ (r : Fin 512) (k : Fin 2048), x (ix2 r k) = rms (X m c (512 * (t.val / 88) + r)) (G m c) k)
    (ho : ∀ (r : Fin 512) (k : Fin 2048), o (ix2 r k) = acc m c (512 * (t.val / 88) + r) (256 * (t.val % 88)) k)
    (r : Fin 512) (k : Fin 2048) :
    k0_pay1 (F := Ideal) (k0_pay4 (grid0.coords t) x (iblk m c 2 t) (iblk m c 3 t) (iblk m c 4 t)) (k0_pay5 o)
        (iblk m c 5 t) (ix2 r k) = acc m c (512 * (t.val / 88) + r) (256 * (t.val % 88 + 1)) k := by
  rw [step_at m c t x o hx r k, ho, acc, acc, Nat.mul_succ, Finset.sum_range_add, ← add_assoc]

/-- What the first step of a row block leaves. -/
theorem outs_first (c : Dev nD) (t : Fin cfg0.N) (h0 : t.val % 88 = 0) :
    (∀ (r : Fin 512) (k : Fin 2048), (outsAt0 m c t.val t.isLt).2 (ix2 r k) = rms (X m c (512 * (t.val / 88) + r)) (G m c) k)
    ∧ ∀ (r : Fin 512) (k : Fin 2048), (outsAt0 m c t.val t.isLt).1 (ix2 r k)
        = acc m c (512 * (t.val / 88) + r) (256 * (t.val % 88 + 1)) k := by
  rw [outsAt0_A m c t h0 (by omega)]
  frame_out
  refine ⟨fun r k => norm_at m c t r k, fun r k => acc_add m c t _ _ (norm_at m c t) (fun r k => ?_) r k⟩
  rw [iblk0, acc, h0, Nat.mul_zero, Finset.range_zero, Finset.sum_empty, add_zero]

section later
variable (c : Dev nD) (t : Fin cfg0.N) (h0 : ¬t.val % 88 = 0) (o : FVec Ideal S512x2048 .f32)
  (x : FVec Ideal S512x2048 .bf16) (ho' : (outsAt0 m c (t.val - 1) (lt_of_le_of_lt (Nat.sub_le _ _) t.isLt)).1 = o)
  (hx' : (outsAt0 m c (t.val - 1) (lt_of_le_of_lt (Nat.sub_le _ _) t.isLt)).2 = x)
  (hx : ∀ (r : Fin 512) (k : Fin 2048), x (ix2 r k) = rms (X m c (512 * (t.val / 88) + r)) (G m c) k)
  (ho : ∀ (r : Fin 512) (k : Fin 2048), o (ix2 r k) = acc m c (512 * (t.val / 88) + r) (256 * (t.val % 88)) k)
include h0 ho' hx' hx ho

/-- What a middle step leaves, from what the step before left. -/
theorem outs_middle (h1 : ¬t.val % 88 = 87) :
    (∀ (r : Fin 512) (k : Fin 2048), (outsAt0 m c t.val t.isLt).2 (ix2 r k) = rms (X m c (512 * (t.val / 88) + r)) (G m c) k)
    ∧ ∀ (r : Fin 512) (k : Fin 2048), (outsAt0 m c t.val t.isLt).1 (ix2 r k)
        = acc m c (512 * (t.val / 88) + r) (256 * (t.val % 88 + 1)) k := by
  rw [outsAt0_B m c t h0 h1]
  frame_out
  unfold sout0_B_0
  simp only [read_unread_whole]
  rw [ho', hx']
  exact ⟨hx, acc_add m c t x o hx ho⟩

/-- What the last step leaves in the result block: the row with all its lanes added, normalised. -/
theorem outs_last (h1 : t.val % 88 = 87) (r : Fin 512) (k : Fin 2048) :
    (outsAt0 m c t.val t.isLt).1 (ix2 r k)
      = rms (fun j => acc m c (512 * (t.val / 88) + r) (8 * 2816) j) (H m c) k := by
  rw [outsAt0_C m c t h0 h1]
  frame_out
  simp only [read_unread_whole]
  rw [ho', hx', pay2_apply]
  have hs := acc_add m c t x o hx ho r
  rw [h1] at hs
  rw [rms_congr (y := fun j => acc m c (512 * (t.val / 88) + r) (8 * 2816) j) _ fun l => (at2_ix _ r l).symm.trans (hs l)]
  have hg : ∀ k : Fin 2048, at2 (n0 := 1) (n1 := 2048) (iblk m c 6 t : FVec Ideal S1x2048 .f32) 0 k = H m c k := fun k =>
    (at2_ix (iblk m c 6 t : FVec Ideal S1x2048 .f32) 0 k).symm.trans (iblk6 m c t k)
  rw [rms, rms, hg]

end later

/-- What a point before the last step leaves: the normalised rows in the scratch, and in the result block the rows plus the
    lanes of the steps done. -/
theorem outs_at (c : Dev nD) : ∀ (n : ℕ) (hn : n < cfg0.N), ¬n % 88 = 87 →
    (∀ (r : Fin 512) (k : Fin 2048), (outsAt0 m c n hn).2 (ix2 r k) = rms (X m c (512 * (n / 88) + r)) (G m c) k)
    ∧ ∀ (r : Fin 512) (k : Fin 2048), (outsAt0 m c n hn).1 (ix2 r k)
        = acc m c (512 * (n / 88) + r) (256 * (n % 88 + 1)) k := by
  intro n
  induction n with
  | zero => exact fun hn _ => outs_first m c ⟨0, hn⟩ rfl
  | succ n ih =>
    intro hn h1
    by_cases h0 : (n + 1) % 88 = 0
    · exact outs_first m c ⟨n + 1, hn⟩ h0
    · obtain ⟨hx, ho⟩ := ih (Nat.lt_of_succ_lt hn) (by omega)
      have hq : (n + 1) / 88 = n / 88 := by omega
      have hr : (n + 1) % 88 = n % 88 + 1 := by omega
      refine outs_middle m c ⟨n + 1, hn⟩ h0 _ _ rfl rfl ?_ ?_ h1
      · dsimp only
        rw [hq]
        exact hx
      · dsimp only
        rw [hq, hr]
        exact ho

/-- What the last step of a row block leaves in the result block. -/
theorem outs_end (c : Dev nD) (t : Fin cfg0.N) (h1 : t.val % 88 = 87) (r : Fin 512) (k : Fin 2048) :
    (outsAt0 m c t.val t.isLt).1 (ix2 r k)
      = rms (fun j => acc m c (512 * (t.val / 88) + r) (8 * 2816) j) (H m c) k := by
  obtain ⟨hx, ho⟩ := outs_at m c (t.val - 1) (lt_of_le_of_lt (Nat.sub_le _ _) t.isLt) (by omega)
  have hq : (t.val - 1) / 88 = t.val / 88 := by omega
  have hr : (t.val - 1) % 88 + 1 = t.val % 88 := by omega
  rw [hq] at hx ho
  rw [hr] at ho
  exact outs_last m c t (by omega) _ _ rfl rfl hx ho h1 r k

/-- The result array after the run, element by element. -/
def out (c : Dev nD) : FVec Ideal S8192x2048 .f32 := fun i =>
  rms (fun j => acc m c (i 0).val (8 * 2816) j) (H m c) (i 1).val

/-- The array after the run is `out`. -/
theorem final (c : Dev nD) : (dats m 0 c).arrAt 7 cfg0.N = out m c := by
  refine (dats m 0 c).arrAt_eq_of_covers 7 _ (by decide +kernel) fun t hf y => ?_
  have hm : t.val % 88 = 87 := (flush0_7 t).mp hf
  blk_simp
  rw [after0_7]
  idx_vars y
  rw [outs_end m c t hm y0 y1]
  have h := idx t
  unfold out
  blk_simp [h]
  rw [Nat.mul_comm (t.val / 88) 512]

end Moe
end Cert.Value

end
-- ==== Proof.Value.MoeRef.lean ====
/-
What the routed feed-forward reference computes, element by element: the row plus the eight experts' gated
feed-forwards, each times the row's weight for it, normalised.
-/
module

public import proofs.«01_k».proof.Proof.Gen.Reference2Ideal.Run
public import proofs.«01_k».proof.Proof.Value.MoeKernel

@[expose] public section

set_option maxRecDepth 16384

noncomputable section

namespace Cert.Value

open Idealize.ShloMosaic Idealize.ShloMosaic.TcCoe Idealize.SL.Sem

/-- The row plus the experts' weighted results, at row `r` and column `j`. -/
def moeSum (x : ℕ → ℕ → EReal) (g : ℕ → EReal) (p : ℕ → ℕ → EReal) (w d : ℕ → ℕ → ℕ → EReal) (r j : ℕ) : EReal :=
  x r j + ∑ e ∈ Finset.range 8, (∑ l ∈ Finset.range 2816, expertLane (x r) g w e l * d e l j) * p r e

open Cert.Reference2Ideal Cert.Reference2Ideal.Gen

/-- Rows of 2048 divided by the root of their mean square and scaled by a gain. -/
def moeNorm (x : FVec Ideal S8192x2048 .f32) (g : FVec Ideal S1x2048 .f32) : FVec Ideal S8192x2048 .f32 :=
  mulf (mulf x (broadcastInDim S8192x2048 ![0, 1] bcast_S8192x1_S8192x2048_0_1 (Host.rsqrt (addf (Host.divf
    (broadcastInDim S8192x1 ![0] bcast_S8192_S8192x1_0 (Host.reduceAdd (mulf x x) (constant S_ .f32 0x00000000#32)
      reducesTo_S8192x2048_S8192_d1 h_S_)) (broadcastInDim S8192x1 ![] bcast_S_S8192x1 (constant S_ .f32 0x45000000#32)))
    (broadcastInDim S8192x1 ![] bcast_S_S8192x1 (constant S_ .f32 0x358637BD#32))))))
    (broadcastInDim S8192x2048 ![0, 1] bcast_S1x2048_S8192x2048_0_1 g)

/-- A normalised element. -/
theorem moeNorm_apply (x : FVec Ideal S8192x2048 .f32) (g : FVec Ideal S1x2048 .f32) (r : Fin 8192) (k : Fin 2048) :
    moeNorm x g (ix2 r k) = rms (at2 x r) (at2 g 0) k := by
  pointwise [moeNorm]
  rw [rms, sum_lanes _ (fun l => at2 x r l * at2 x r l) fun l => by rw [at2_ix x], at2_ix g, at2_ix x]
  rfl

section expert
variable (e : Fin 8) (hw : S8x2048x5632.Slices ![e.val, 0, 0] S1x2048x5632)
  (hd : S8x2816x2048.Slices ![e.val, 0, 0] S1x2816x2048) (hp : S8192x8.Slices ![0, e.val] S8192x1)
  (x : FVec Ideal S8192x2048 .f32) (g : FVec Ideal S1x2048 .f32) (p : FVec Ideal S8192x8 .f32)
  (w : FVec Ideal S8x2048x5632 .bf16) (d : FVec Ideal S8x2816x2048 .bf16)

/-- The normalised rows projected by one expert, both halves. -/
def moeProj : FVec Ideal S8192x5632 .f32 :=
  Host.dotGeneral dot_S8192x2048_S2048x5632_S8192x5632_1_0_0_1_n_n none (moeNorm x g)
    (extf .f32 (shapeCast _ (extractStridedSlice S1x2048x5632 ![e.val, 0, 0] w hw) shapeCasts_S1x2048x5632_S2048x5632)
      bitsLt_bf16_f32)

/-- The first half of the expert's projection. -/
def moeGate : FVec Ideal S8192x2816 .f32 :=
  extractStridedSlice S8192x2816 ![0, 0] (moeProj e hw x g w) slices_S8192x5632_S8192x2816_0_0

/-- One expert's result times the rows' weights for it. -/
def moeTerm : FVec Ideal S8192x2048 .f32 :=
  mulf (Host.dotGeneral dot_S8192x2816_S2816x2048_S8192x2048_1_0_0_1_n_n none
    (mulf (mulf (moeGate e hw x g w) (Host.divf (broadcastInDim S8192x2816 ![] bcast_S_S8192x2816 (constant S_ .f32 0x3F800000#32))
      (addf (broadcastInDim S8192x2816 ![] bcast_S_S8192x2816 (constant S_ .f32 0x3F800000#32))
        (Host.exp (Host.negf (moeGate e hw x g w))))))
      (extractStridedSlice S8192x2816 ![0, 2816] (moeProj e hw x g w) slices_S8192x5632_S8192x2816_0_2816))
    (extf .f32 (shapeCast _ (extractStridedSlice S1x2816x2048 ![e.val, 0, 0] d hd) shapeCasts_S1x2816x2048_S2816x2048)
      bitsLt_bf16_f32))
    (broadcastInDim S8192x2048 ![0, 1] bcast_S8192x1_S8192x2048_0_1 (extractStridedSlice S8192x1 ![0, e.val] p hp))

/-- A projected element. -/
theorem moeProj_apply (r : Fin 8192) (l : Fin 5632) :
    moeProj e hw x g w (ix2 r l) = ∑ k ∈ Finset.range 2048, rms (at2 x r) (at2 g 0) k * at3 w e k l := by
  pointwise [moeProj]
  exact sum_lanes _ (fun k => rms (at2 x r) (at2 g 0) k * at3 w e k l) fun k => by
    rw [moeNorm_apply]
    exact congrArg (_ * ·) (at3_ix w e k l)

/-- An element of one expert's term. -/
theorem moeTerm_apply (r : Fin 8192) (j : Fin 2048) :
    moeTerm e hw hd hp x g p w d (ix2 r j)
      = (∑ l ∈ Finset.range 2816, expertLane (at2 x r) (at2 g 0) (at3 w) e l * at3 d e l j) * at2 p r e := by
  pointwise [moeTerm, moeGate]
  simp only [moeProj_apply]
  exact congrArg₂ (· * ·) (sum_lanes _ (fun l => expertLane (at2 x r) (at2 g 0) (at3 w) e l * at3 d e l j) fun l => by
    rw [expertLane, ← mul_logistic]
    exact congrArg (_ * ·) (at3_ix d e l j)) (at2_ix p r e)

end expert

section total
variable (V : Valuation τ sig (Elt Ideal))

/-- The term of expert `e` over the reference's arguments. -/
abbrev argTerm (e : Fin 8) (hw : S8x2048x5632.Slices ![e.val, 0, 0] S1x2048x5632)
    (hd : S8x2816x2048.Slices ![e.val, 0, 0] S1x2816x2048) (hp : S8192x8.Slices ![0, e.val] S8192x1) :
    FVec Ideal S8192x2048 .f32 :=
  moeTerm e hw hd hp (V (Proc.devRef .tc main_arg0)) (V (Proc.devRef .tc main_arg1)) (V (Proc.devRef .tc main_arg2))
    (V (Proc.devRef .tc main_arg3)) (V (Proc.devRef .tc main_arg4))

/-- The reference's sum of the row and the eight terms, named term by term. -/
theorem res_total : Cert.Reference2Ideal.Value.res_main_v141 V
    = addf (V (Proc.devRef .tc main_arg0)) (addf (addf (addf (addf (addf (addf (addf (addf
        (broadcastInDim S8192x2048 ![] bcast_S_S8192x2048 (constant S_ .f32 0x00000000#32))
        (argTerm V 0 slices_S8x2048x5632_S1x2048x5632_0_0_0 slices_S8x2816x2048_S1x2816x2048_0_0_0 slices_S8192x8_S8192x1_0_0))
        (argTerm V 1 slices_S8x2048x5632_S1x2048x5632_1_0_0 slices_S8x2816x2048_S1x2816x2048_1_0_0 slices_S8192x8_S8192x1_0_1))
        (argTerm V 2 slices_S8x2048x5632_S1x2048x5632_2_0_0 slices_S8x2816x2048_S1x2816x2048_2_0_0 slices_S8192x8_S8192x1_0_2))
        (argTerm V 3 slices_S8x2048x5632_S1x2048x5632_3_0_0 slices_S8x2816x2048_S1x2816x2048_3_0_0 slices_S8192x8_S8192x1_0_3))
        (argTerm V 4 slices_S8x2048x5632_S1x2048x5632_4_0_0 slices_S8x2816x2048_S1x2816x2048_4_0_0 slices_S8192x8_S8192x1_0_4))
        (argTerm V 5 slices_S8x2048x5632_S1x2048x5632_5_0_0 slices_S8x2816x2048_S1x2816x2048_5_0_0 slices_S8192x8_S8192x1_0_5))
        (argTerm V 6 slices_S8x2048x5632_S1x2048x5632_6_0_0 slices_S8x2816x2048_S1x2816x2048_6_0_0 slices_S8192x8_S8192x1_0_6))
        (argTerm V 7 slices_S8x2048x5632_S1x2048x5632_7_0_0 slices_S8x2816x2048_S1x2816x2048_7_0_0 slices_S8192x8_S8192x1_0_7)) := by
  rfl

/-- An element of that sum. -/
theorem res_total_apply (r : Fin 8192) (j : Fin 2048) :
    (Cert.Reference2Ideal.Value.res_main_v141 V : FVec Ideal S8192x2048 .f32) (ix2 r j)
      = moeSum (at2 (n0 := 8192) (n1 := 2048) (V (Proc.devRef .tc main_arg0)))
          (at2 (n0 := 1) (n1 := 2048) (V (Proc.devRef .tc main_arg1)) 0)
          (at2 (n0 := 8192) (n1 := 8) (V (Proc.devRef .tc main_arg2)))
          (at3 (n0 := 8) (n1 := 2048) (n2 := 5632) (V (Proc.devRef .tc main_arg3)))
          (at3 (n0 := 8) (n1 := 2816) (n2 := 2048) (V (Proc.devRef .tc main_arg4))) r j := by
  rw [res_total]
  pointwise []
  simp only [moeTerm_apply]
  rw [moeSum]
  simp only [Finset.sum_range_succ _ 0, Finset.sum_range_succ _ 1, Finset.sum_range_succ _ 2, Finset.sum_range_succ _ 3,
    Finset.sum_range_succ _ 4, Finset.sum_range_succ _ 5, Finset.sum_range_succ _ 6, Finset.sum_range_succ _ 7]
  rw [Finset.range_zero, Finset.sum_empty, zero_add, at2_ix (n0 := 8192) (n1 := 2048) (V (Proc.devRef .tc main_arg0)) r j]
  rfl

end total

end Cert.Value

end
-- ==== Proof.Value.Moe.lean ====
/-
The routed feed-forward call: over the extended reals the kernel's result array and the reference's are equal when
every routing weight is a nonnegative number. The kernel multiplies each gated lane by its weight before the
contraction, the reference multiplies the contraction; multiplication by a nonnegative number distributes over sums of
extended reals, and by a negative number or `+∞` it does not.
-/
module

public import proofs.«01_k».proof.Defs
public import proofs.«01_k».proof.Proof.Gen.Pre_weights
public import proofs.«01_k».proof.Proof.Value.MoeRef
public import Idealize.ShloMosaic.Lib.Claim

@[expose] public section

set_option maxRecDepth 16384

noncomputable section

namespace Cert.Value

open Idealize.ShloMosaic Idealize.ShloMosaic.TcCoe Idealize.SL.Sem

/-- A nonnegative finite factor goes into a finite sum of extended reals. -/
theorem sum_mul_of_nonneg (n : ℕ) (f : ℕ → EReal) (c : EReal) (h0 : 0 ≤ c) (ht : c ≠ ⊤) :
    (∑ l ∈ Finset.range n, f l) * c = ∑ l ∈ Finset.range n, f l * c := by
  induction n with
  | zero => simp
  | succ n ih => rw [Finset.sum_range_succ, Finset.sum_range_succ, EReal.right_distrib_of_nonneg_of_ne_top h0 ht, ih]

/-- A sum over `a * b` numbers, by quotient and remainder. -/
theorem sum_range_mul (a b : ℕ) (f : ℕ → EReal) :
    ∑ u ∈ Finset.range (a * b), f u = ∑ e ∈ Finset.range a, ∑ l ∈ Finset.range b, f (b * e + l) := by
  induction a with
  | zero => simp
  | succ a ih => rw [Nat.succ_mul, Finset.sum_range_add, ih, Finset.sum_range_succ, Nat.mul_comm a b]

/-- The kernel's flat sum of scaled lanes is the reference's sum of weighted experts, where the row's weights are
    nonnegative and finite. -/
theorem lanes_eq (x : ℕ → ℕ → EReal) (g : ℕ → EReal) (p : ℕ → ℕ → EReal) (w d : ℕ → ℕ → ℕ → EReal) (r j : ℕ)
    (hp : ∀ e < 8, 0 ≤ p r e ∧ p r e ≠ ⊤) :
    x r j + ∑ u ∈ Finset.range (8 * 2816), scaledLane (x r) g (p r) w d j u = moeSum x g p w d r j := by
  rw [moeSum, sum_range_mul]
  refine congrArg (x r j + ·) (Finset.sum_congr rfl fun e he => ?_)
  obtain ⟨h0, ht⟩ := hp e (Finset.mem_range.1 he)
  rw [sum_mul_of_nonneg _ _ _ h0 ht]
  refine Finset.sum_congr rfl fun l hl => ?_
  have hl := Finset.mem_range.1 hl
  rw [scaledLane, show (2816 * e + l) / 2816 = e by omega, show (2816 * e + l) % 2816 = l by omega]
  exact mul_right_comm _ _ _

/-- The precondition at one weight: nonnegative and below `+∞`. -/
theorem weight_ok (m : (ℓ : Loc Cert.Kernel2Ideal.nD Cert.Kernel2Ideal.τ Cert.Kernel2Ideal.sig) → Buf (Elt Ideal) ℓ)
    (h : Cert.Pre_Kernel2Ideal_weights (hPre_weights := Cert.Pre_weights.Gen.facts) m) (c : Dev Cert.Kernel2Ideal.nD)
    (r : Fin 8192) (e : Fin 8) :
    0 ≤ Moe.P m c r e ∧ Moe.P m c r e ≠ ⊤ := by
  have h := congrFun (h c) (ix2 r e)
  rw [Moe.P, ← at2_ix]
  have h' : IntOp.andi (Ideal.cmp .oge ((m ((c.tc : Thread Cert.Kernel2Ideal.nD Cert.Kernel2Ideal.τ).loc Cert.Kernel2Ideal.main_arg2)) (ix2 r e)) (Ideal.ofBits FTy.f32 0x00000000#32))
      (Ideal.cmp .olt ((m ((c.tc : Thread Cert.Kernel2Ideal.nD Cert.Kernel2Ideal.τ).loc Cert.Kernel2Ideal.main_arg2)) (ix2 r e)) (Ideal.ofBits FTy.f32 0x7F800000#32)) = 1#1 := h
  rw [Ideal.ofBits_zero_f32, ofBits_inf] at h'
  by_cases h0 : (0 : EReal) ≤ (m ((c.tc : Thread Cert.Kernel2Ideal.nD Cert.Kernel2Ideal.τ).loc Cert.Kernel2Ideal.main_arg2)) (ix2 r e)
  · refine ⟨h0, fun ht => ?_⟩
    rw [ht] at h'
    simp [IntOp.andi, Ideal.cmp] at h'
  · simp [IntOp.andi, Ideal.cmp, h0] at h'

/-- The kernel's array and the reference's are one function of the arguments. -/
theorem moe_eq (m : (ℓ : Loc Cert.Kernel2Ideal.nD Cert.Kernel2Ideal.τ Cert.Kernel2Ideal.sig) → Buf (Elt Ideal) ℓ)
    (h : Cert.Pre_Kernel2Ideal_weights (hPre_weights := Cert.Pre_weights.Gen.facts) m) (c : Dev Cert.Kernel2Ideal.nD)
    (V : Valuation Cert.Reference2Ideal.τ Cert.Reference2Ideal.sig (Elt Ideal))
    (h0 : V (Proc.devRef .tc Cert.Reference2Ideal.main_arg0) = (m ((c.tc : Thread Cert.Kernel2Ideal.nD Cert.Kernel2Ideal.τ).loc Cert.Kernel2Ideal.main_arg0)))
    (h1 : V (Proc.devRef .tc Cert.Reference2Ideal.main_arg1) = (m ((c.tc : Thread Cert.Kernel2Ideal.nD Cert.Kernel2Ideal.τ).loc Cert.Kernel2Ideal.main_arg1)))
    (h2 : V (Proc.devRef .tc Cert.Reference2Ideal.main_arg2) = (m ((c.tc : Thread Cert.Kernel2Ideal.nD Cert.Kernel2Ideal.τ).loc Cert.Kernel2Ideal.main_arg2)))
    (h3 : V (Proc.devRef .tc Cert.Reference2Ideal.main_arg3) = (m ((c.tc : Thread Cert.Kernel2Ideal.nD Cert.Kernel2Ideal.τ).loc Cert.Kernel2Ideal.main_arg3)))
    (h4 : V (Proc.devRef .tc Cert.Reference2Ideal.main_arg4) = (m ((c.tc : Thread Cert.Kernel2Ideal.nD Cert.Kernel2Ideal.τ).loc Cert.Kernel2Ideal.main_arg4))) :
    moeNorm (Cert.Reference2Ideal.Value.res_main_v141 V) (m ((c.tc : Thread Cert.Kernel2Ideal.nD Cert.Kernel2Ideal.τ).loc Cert.Kernel2Ideal.main_arg5)) = Moe.out m c := by
  funext i
  idx_vars i
  refine (moeNorm_apply _ _ i0 i1).trans ?_
  refine rms_congr _ (fun l => ?_) i1
  rw [← at2_ix, res_total_apply, h0, h1, h2, h3, h4]
  exact (lanes_eq _ _ _ _ _ i0 l fun e he => weight_ok m h c i0 ⟨e, he⟩).symm

/-- The routed feed-forward kernel computes what its reference computes, under the precondition. -/
theorem moe_algebraic : Cert.algebraic_Kernel2Ideal_Reference2Ideal_pre_weights (hKernel2Ideal := Cert.Kernel2Ideal.Gen.facts)
    (hReference2Ideal := Cert.Reference2Ideal.Gen.facts) (hPre_weights := Cert.Pre_weights.Gen.facts) := by
  pair_intro
  · run_from Cert.Kernel2Ideal.Gen.run_main m g
  · run_from Cert.Reference2Ideal.Value.run m' g'
    obtain ⟨a0, a1, a2, a3, a4, -⟩ := hagree c
    exact (moe_eq m hpre c (StableHlo.launchContents m' c) a0 a1 a2 a3 a4).trans (Moe.final m c).symm

/-- The reference runs, leaves its arguments as they were and every semaphore at zero. -/
theorem moe_reference_frame : Cert.quiescent_Reference2Ideal (hReference2Ideal := Cert.Reference2Ideal.Gen.facts) := fun m ρ _ =>
  (θ_run Cert.Reference2Ideal.defs _ _).mono (fun r h => ⟨fun c => (h c).2, sem_eq_zero_of_no_sems (by decide) r.2⟩)
    (Cert.Reference2Ideal.Value.run (F := Ideal) m ρ)

end Cert.Value

end
-- ==== Proof.Value.FfnRef.lean ====
/-
The reference of the feed-forward call, read at one element: the residual row plus the contraction over the
5632 gated lanes.
-/
module

public import proofs.«01_k».proof.Proof.Gen.Reference3Ideal.Run
public import proofs.«01_k».proof.Proof.Value.Math

@[expose] public section

set_option maxRecDepth 16384

noncomputable section

namespace Cert.Value

open Idealize.ShloMosaic Idealize.ShloMosaic.TcCoe Idealize.SL.Sem

/-- Lane `l` of the gated hidden row: the gate of the first projection times the second projection. -/
def ffnLane (x g : ℕ → EReal) (w : ℕ → ℕ → EReal) (l : ℕ) : EReal :=
  swish (∑ k ∈ Finset.range 2048, rms x g k * w k l) * ∑ k ∈ Finset.range 2048, rms x g k * w k (5632 + l)

/-- The result of the feed-forward call at row `r` and column `j`. -/
def ffnOut (x : ℕ → ℕ → EReal) (g : ℕ → EReal) (w d : ℕ → ℕ → EReal) (r j : ℕ) : EReal :=
  x r j + ∑ l ∈ Finset.range 5632, ffnLane (x r) g w l * d l j

section
open Cert.Reference3Ideal Cert.Reference3Ideal.Gen

/-- The reference's normalised rows. -/
def ffnNorm (x : FVec Ideal S8192x2048 .f32) (g : FVec Ideal S1x2048 .f32) : FVec Ideal S8192x2048 .f32 :=
  mulf (mulf x (broadcastInDim S8192x2048 ![0, 1] bcast_S8192x1_S8192x2048_0_1 (Host.rsqrt (addf (Host.divf
    (broadcastInDim S8192x1 ![0] bcast_S8192_S8192x1_0 (Host.reduceAdd (mulf x x) (constant S_ .f32 0x00000000#32)
      reducesTo_S8192x2048_S8192_d1 h_S_)) (broadcastInDim S8192x1 ![] bcast_S_S8192x1 (constant S_ .f32 0x45000000#32)))
    (broadcastInDim S8192x1 ![] bcast_S_S8192x1 (constant S_ .f32 0x358637BD#32))))))
    (broadcastInDim S8192x2048 ![0, 1] bcast_S1x2048_S8192x2048_0_1 g)

/-- The reference's projection of the normalised rows onto both halves of the hidden lanes. -/
def ffnProj (x : FVec Ideal S8192x2048 .f32) (g : FVec Ideal S1x2048 .f32) (w : FVec Ideal S2048x11264 .bf16) :
    FVec Ideal S8192x11264 .f32 :=
  Host.dotGeneral dot_S8192x2048_S2048x11264_S8192x11264_1_0_0_1_n_n none (ffnNorm x g) (extf .f32 w bitsLt_bf16_f32)

/-- The reference's first half of the hidden lanes. -/
def ffnGate (x : FVec Ideal S8192x2048 .f32) (g : FVec Ideal S1x2048 .f32) (w : FVec Ideal S2048x11264 .bf16) :
    FVec Ideal S8192x5632 .f32 :=
  extractStridedSlice S8192x5632 ![0, 0] (ffnProj x g w) slices_S8192x11264_S8192x5632_0_0

/-- The reference's composed term over its four arguments. -/
def ffnTerm (x : FVec Ideal S8192x2048 .f32) (g : FVec Ideal S1x2048 .f32) (w : FVec Ideal S2048x11264 .bf16)
    (d : FVec Ideal S5632x2048 .bf16) : FVec Ideal S8192x2048 .f32 :=
  addf x (Host.dotGeneral dot_S8192x5632_S5632x2048_S8192x2048_1_0_0_1_n_n none
    (mulf (mulf (ffnGate x g w) (Host.divf (broadcastInDim S8192x5632 ![] bcast_S_S8192x5632 (constant S_ .f32 0x3F800000#32))
      (addf (broadcastInDim S8192x5632 ![] bcast_S_S8192x5632 (constant S_ .f32 0x3F800000#32))
        (Host.exp (Host.negf (ffnGate x g w))))))
      (extractStridedSlice S8192x5632 ![0, 5632] (ffnProj x g w) slices_S8192x11264_S8192x5632_0_5632))
    (extf .f32 d bitsLt_bf16_f32))

/-- A normalised element of the reference. -/
theorem ffnNorm_apply (x : FVec Ideal S8192x2048 .f32) (g : FVec Ideal S1x2048 .f32) (r : Fin 8192) (k : Fin 2048) :
    ffnNorm x g (ix2 r k) = rms (at2 x r) (at2 g 0) k := by
  pointwise [ffnNorm]
  rw [rms, sum_lanes _ (fun l => at2 x r l * at2 x r l) fun l => by rw [at2_ix x], at2_ix g, at2_ix x]
  rfl

/-- A projected element of the reference. -/
theorem ffnProj_apply (x : FVec Ideal S8192x2048 .f32) (g : FVec Ideal S1x2048 .f32) (w : FVec Ideal S2048x11264 .bf16)
    (r : Fin 8192) (l : Fin 11264) :
    ffnProj x g w (ix2 r l) = ∑ k ∈ Finset.range 2048, rms (at2 x r) (at2 g 0) k * at2 w k l := by
  pointwise [ffnProj]
  exact sum_lanes _ (fun k => rms (at2 x r) (at2 g 0) k * at2 w k l) fun k => by rw [ffnNorm_apply, at2_ix w]

/-- The reference's term at one element is `ffnOut` of the arguments' elements. -/
theorem ffnTerm_apply (x : FVec Ideal S8192x2048 .f32) (g : FVec Ideal S1x2048 .f32) (w : FVec Ideal S2048x11264 .bf16)
    (d : FVec Ideal S5632x2048 .bf16) (r : Fin 8192) (j : Fin 2048) :
    ffnTerm x g w d (ix2 r j) = ffnOut (at2 x) (at2 g 0) (at2 w) (at2 d) r j := by
  pointwise [ffnTerm, ffnGate]
  simp only [ffnProj_apply]
  rw [ffnOut, at2_ix x, sum_lanes _ (fun l => ffnLane (at2 x r) (at2 g 0) (at2 w) l * at2 d l j) fun l => by
    rw [ffnLane, ← mul_logistic, at2_ix d]]

end

end Cert.Value

end
-- ==== Proof.Value.FfnKernel.lean ====
/-
The feed-forward kernel's result array. Grid point `t` is step `t % 11` of row block `t / 11`: the first step
normalises the block's rows into the scratch and starts the result block at the rows themselves; each step adds
the contraction over its 512 gated lanes. So after step `s` the result block holds the rows plus the contraction
over the first `512 * (s + 1)` lanes, and after the last step over all 5632.
-/
module

public import proofs.«01_k».proof.Proof.Gen.Kernel3Ideal.Value
public import proofs.«01_k».proof.Proof.Value.FfnRef
public import Idealize.ShloMosaic.Lib.Pipeline.ValueKit
public import Idealize.ShloMosaic.Lib.Pipeline.ReadBack

@[expose] public section

set_option maxRecDepth 16384

noncomputable section

namespace Cert.Value.Ffn

open Idealize.ShloMosaic Idealize.ShloMosaic.TcCoe Idealize.SL.Sem
open Cert.Value Cert.Kernel3Ideal Cert.Kernel3Ideal.Gen

/-- The normalisation the first step stores. -/
theorem pay1_apply (x : FVec Ideal S512x2048 .f32) (g : FVec Ideal S1x2048 .f32) (r : Fin 512) (k : Fin 2048) :
    k0_pay1 (F := Ideal) x g (ix2 r k) = rms (at2 x r) (at2 g 0) k := by
  pointwise [k0_pay1]
  rw [rms, sum_lanes _ (fun l => at2 x r l * at2 x r l) fun l => by rw [at2_ix x], at2_ix g, at2_ix x]
  rfl

/-- What one step adds: the contraction over the block's 512 gated lanes. -/
theorem pay2_apply (x : FVec Ideal S512x2048 .bf16) (wg wu : FVec Ideal S2048x512 .bf16) (o : FVec Ideal S512x2048 .f32)
    (wd : FVec Ideal S512x2048 .bf16) (r : Fin 512) (k : Fin 2048) :
    k0_pay2 (F := Ideal) x wg wu o wd (ix2 r k) = o (ix2 r k) + ∑ l : Fin 512,
      (swish (∑ a : Fin 2048, x (ix2 r a) * wg (ix2 a l)) * ∑ a : Fin 2048, x (ix2 r a) * wu (ix2 a l)) * wd (ix2 l k) := by
  pointwise [k0_pay2]
  simp only [swish, zero_sub]

variable (m : (ℓ : Loc nD τ sig) → Buf (Elt Ideal) ℓ)

/-- The rows, as a matrix. -/
abbrev X (c : Dev nD) : ℕ → ℕ → EReal := at2 (n0 := 8192) (n1 := 2048) (m ((c : Thread nD τ).loc main_arg0))
/-- The gain. -/
abbrev G (c : Dev nD) : ℕ → EReal := at2 (n0 := 1) (n1 := 2048) (m ((c : Thread nD τ).loc main_arg1)) 0
/-- The first projection, both halves. -/
abbrev W (c : Dev nD) : ℕ → ℕ → EReal := at2 (n0 := 2048) (n1 := 11264) (m ((c : Thread nD τ).loc main_arg2))
/-- The second projection. -/
abbrev D (c : Dev nD) : ℕ → ℕ → EReal := at2 (n0 := 5632) (n1 := 2048) (m ((c : Thread nD τ).loc main_arg3))

/-- Which block of its array each window holds at point `t`. -/
theorem idx : ∀ t : Fin cfg0.N, win0_0.index t = ![t.val / 11, 0] ∧ win0_1.index t = ![0, 0]
    ∧ win0_2.index t = ![0, t.val % 11] ∧ win0_3.index t = ![0, 11 + t.val % 11]
    ∧ win0_4.index t = ![t.val % 11, 0] ∧ win0_5.index t = ![t.val / 11, 0] :=
  (by decide +kernel : ∀ t : Fin grid0.N, _)

theorem iblk0 (c : Dev nD) (t : Fin cfg0.N) (r : Fin 512) (k : Fin 2048) :
    (iblk m c 0 t : FVec Ideal S512x2048 .f32) (ix2 r k) = X m c (512 * (t.val / 11) + r) k := by
  have h := idx t
  have ht : t.val < 176 := lt_of_lt_of_eq t.isLt N_0
  rw [X, at2, dif_pos ⟨by omega, by omega⟩]
  blk_ext [iblk, V, h]

theorem iblk1 (c : Dev nD) (t : Fin cfg0.N) (k : Fin 2048) :
    (iblk m c 1 t : FVec Ideal S1x2048 .f32) (ix2 0 k) = G m c k := by
  have h := idx t
  rw [G, at2, dif_pos ⟨by omega, by omega⟩]
  blk_ext [iblk, V, h]

theorem iblk2 (c : Dev nD) (t : Fin cfg0.N) (r : Fin 2048) (k : Fin 512) :
    (iblk m c 2 t : FVec Ideal S2048x512 .bf16) (ix2 r k) = W m c r (512 * (t.val % 11) + k) := by
  have h := idx t
  rw [W, at2, dif_pos ⟨by omega, by omega⟩]
  blk_ext [iblk, V, h]

theorem iblk3 (c : Dev nD) (t : Fin cfg0.N) (r : Fin 2048) (k : Fin 512) :
    (iblk m c 3 t : FVec Ideal S2048x512 .bf16) (ix2 r k) = W m c r (5632 + (512 * (t.val % 11) + k)) := by
  have h := idx t
  rw [W, at2, dif_pos ⟨by omega, by omega⟩]
  blk_ext [iblk, V, h]

theorem iblk4 (c : Dev nD) (t : Fin cfg0.N) (r : Fin 512) (k : Fin 2048) :
    (iblk m c 4 t : FVec Ideal S512x2048 .bf16) (ix2 r k) = D m c (512 * (t.val % 11) + r) k := by
  have h := idx t
  rw [D, at2, dif_pos ⟨by omega, by omega⟩]
  blk_ext [iblk, V, h]

/-- The normalisation a point's rows would give is the row block's, whatever the step. -/
theorem norm_at (c : Dev nD) (t : Fin cfg0.N) (r : Fin 512) (k : Fin 2048) :
    k0_pay1 (F := Ideal) (iblk m c 0 t) (iblk m c 1 t) (ix2 r k) = rms (X m c (512 * (t.val / 11) + r)) (G m c) k := by
  pointwise [k0_pay1]
  simp only [iblk0, iblk1]
  exact congrArg (fun s => X m c _ _ * Ideal.rsqrt (Ideal.div s _ + _) * G m c k) (sum_lanes _ _ fun _ => rfl)

/-- What step `t` adds at row `r` and column `k` when the scratch holds the normalised rows. -/
theorem step_at (c : Dev nD) (t : Fin cfg0.N) (x : FVec Ideal S512x2048 .bf16) (o : FVec Ideal S512x2048 .f32)
    (hx : ∀ (r : Fin 512) (k : Fin 2048), x (ix2 r k) = rms (X m c (512 * (t.val / 11) + r)) (G m c) k)
    (r : Fin 512) (k : Fin 2048) :
    k0_pay2 (F := Ideal) x (iblk m c 2 t) (iblk m c 3 t) o (iblk m c 4 t) (ix2 r k) = o (ix2 r k)
      + ∑ l ∈ Finset.range 512, ffnLane (X m c (512 * (t.val / 11) + r)) (G m c) (W m c) (512 * (t.val % 11) + l)
          * D m c (512 * (t.val % 11) + l) k := by
  rw [pay2_apply]
  refine congrArg (o (ix2 r k) + ·) (sum_lanes _ _ fun l => ?_)
  simp only [hx, iblk2, iblk3, iblk4]
  rw [ffnLane]
  refine congrArg₂ (fun a b => swish a * b * _) ?_ ?_ <;> exact sum_lanes _ _ fun _ => rfl

/-- What a first step (`t % 11 = 0`) leaves. -/
theorem outs_first (c : Dev nD) (t : Fin cfg0.N) (h0 : t.val % 11 = 0) :
    (∀ (r : Fin 512) (k : Fin 2048), (outsAt0 m c t.val t.isLt).2 (ix2 r k) = rms (X m c (512 * (t.val / 11) + r)) (G m c) k)
    ∧ ∀ (r : Fin 512) (k : Fin 2048), (outsAt0 m c t.val t.isLt).1 (ix2 r k) = X m c (512 * (t.val / 11) + r) k
        + ∑ l ∈ Finset.range (512 * (t.val % 11 + 1)),
            ffnLane (X m c (512 * (t.val / 11) + r)) (G m c) (W m c) l * D m c l k := by
  rw [outsAt0_A m c t h0]
  frame_out
  refine ⟨fun r k => norm_at m c t r k, fun r k => ?_⟩
  rw [step_at m c t _ _ (norm_at m c t) r k, iblk0, h0]
  simp only [Nat.mul_zero, Nat.zero_add, Nat.mul_one]

/-- What a later step leaves, from what the step before left. -/
theorem outs_later (c : Dev nD) (t : Fin cfg0.N) (h0 : ¬t.val % 11 = 0) (o : FVec Ideal S512x2048 .f32)
    (x : FVec Ideal S512x2048 .bf16) (ho : (outsAt0 m c (t.val - 1) (lt_of_le_of_lt (Nat.sub_le _ _) t.isLt)).1 = o)
    (hx' : (outsAt0 m c (t.val - 1) (lt_of_le_of_lt (Nat.sub_le _ _) t.isLt)).2 = x)
    (hx : ∀ (r : Fin 512) (k : Fin 2048), x (ix2 r k) = rms (X m c (512 * (t.val / 11) + r)) (G m c) k) :
    (∀ (r : Fin 512) (k : Fin 2048), (outsAt0 m c t.val t.isLt).2 (ix2 r k) = rms (X m c (512 * (t.val / 11) + r)) (G m c) k)
    ∧ ∀ (r : Fin 512) (k : Fin 2048), (outsAt0 m c t.val t.isLt).1 (ix2 r k) = o (ix2 r k)
        + ∑ l ∈ Finset.range 512, ffnLane (X m c (512 * (t.val / 11) + r)) (G m c) (W m c) (512 * (t.val % 11) + l)
            * D m c (512 * (t.val % 11) + l) k := by
  rw [outsAt0_B m c t h0]
  frame_out
  unfold sout0_B_0
  simp only [read_unread_whole]
  rw [ho, hx']
  exact ⟨hx, fun r k => step_at m c t x o hx r k⟩

/-- What a point leaves: the normalised rows in the scratch, and in the result block the rows plus the contraction
    over the lanes of the steps done. -/
theorem outs_at (c : Dev nD) : ∀ (n : ℕ) (hn : n < cfg0.N),
    (∀ (r : Fin 512) (k : Fin 2048), (outsAt0 m c n hn).2 (ix2 r k) = rms (X m c (512 * (n / 11) + r)) (G m c) k)
    ∧ ∀ (r : Fin 512) (k : Fin 2048), (outsAt0 m c n hn).1 (ix2 r k) = X m c (512 * (n / 11) + r) k
        + ∑ l ∈ Finset.range (512 * (n % 11 + 1)), ffnLane (X m c (512 * (n / 11) + r)) (G m c) (W m c) l * D m c l k := by
  intro n
  induction n with
  | zero => exact fun hn => outs_first m c ⟨0, hn⟩ rfl
  | succ n ih =>
    intro hn
    by_cases h0 : (n + 1) % 11 = 0
    · exact outs_first m c ⟨n + 1, hn⟩ h0
    · obtain ⟨hx, ho⟩ := ih (Nat.lt_of_succ_lt hn)
      have hq : (n + 1) / 11 = n / 11 := by omega
      have hr : (n + 1) % 11 = n % 11 + 1 := by omega
      obtain ⟨h2, h1⟩ := outs_later m c ⟨n + 1, hn⟩ h0 _ _ rfl rfl (fun r k => by
        rw [show (⟨n + 1, hn⟩ : Fin cfg0.N).val / 11 = n / 11 from hq]; exact hx r k)
      refine ⟨h2, fun r k => (h1 r k).trans ?_⟩
      dsimp only
      rw [hq, hr, show 512 * (n % 11 + 1 + 1) = 512 * (n % 11 + 1) + 512 by omega, Finset.sum_range_add, ← add_assoc]
      exact congrArg (· + _) (ho r k)

/-- The result array after the run, element by element. -/
def out (c : Dev nD) : FVec Ideal S8192x2048 .f32 := fun i => ffnOut (X m c) (G m c) (W m c) (D m c) (i 0).val (i 1).val

/-- The array after the run is `out`. -/
theorem final (c : Dev nD) : (dats m 0 c).arrAt 5 cfg0.N = out m c := by
  refine (dats m 0 c).arrAt_eq_of_covers 5 _ (by decide +kernel) fun t hf y => ?_
  have hm : t.val % 11 = 10 := (flush0_5 t).mp hf
  blk_simp
  rw [after0_5]
  idx_vars y
  rw [(outs_at m c t.val t.isLt).2 y0 y1, hm]
  have h := idx t
  unfold out
  blk_simp [h]
  rw [ffnOut, Nat.mul_comm (t.val / 11) 512]

end Cert.Value.Ffn

end
-- ==== Proof.Value.Ffn.lean ====
/-
The feed-forward call: over the extended reals the kernel's result array and the reference's are equal, with no
condition on the arguments.
-/
module

public import proofs.«01_k».proof.Defs
public import proofs.«01_k».proof.Proof.Value.FfnKernel
public import Idealize.ShloMosaic.Lib.Claim

@[expose] public section

set_option maxRecDepth 16384

noncomputable section

namespace Cert.Value

open Idealize.ShloMosaic Idealize.ShloMosaic.TcCoe Idealize.SL.Sem

/-- The kernel's array and the reference's are one function of the arguments. -/
theorem ffn_eq (m : (ℓ : Loc Cert.Kernel3Ideal.nD Cert.Kernel3Ideal.τ Cert.Kernel3Ideal.sig) → Buf (Elt Ideal) ℓ)
    (c : Dev Cert.Kernel3Ideal.nD) :
    ffnTerm (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1))
      (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))
      = Ffn.out m c := by
  funext i
  idx_vars i
  exact ffnTerm_apply _ _ _ _ i0 i1

/-- The feed-forward kernel computes what its reference computes. -/
theorem ffn_algebraic : Cert.algebraic_Kernel3Ideal_Reference3Ideal (hKernel3Ideal := Cert.Kernel3Ideal.Gen.facts)
    (hReference3Ideal := Cert.Reference3Ideal.Gen.facts) := by
  pair_intro
  · run_from Cert.Kernel3Ideal.Gen.run_main m g
  · run_from Cert.Reference3Ideal.Value.run m' g'
    exact (ffn_eq m c).trans (Ffn.final m c).symm

/-- The reference runs, leaves its arguments as they were and every semaphore at zero. -/
theorem ffn_reference_frame : Cert.quiescent_Reference3Ideal (hReference3Ideal := Cert.Reference3Ideal.Gen.facts) := fun m ρ _ =>
  (θ_run Cert.Reference3Ideal.defs _ _).mono (fun r h => ⟨fun c => (h c).2, sem_eq_zero_of_no_sems (by decide) r.2⟩)
    (Cert.Reference3Ideal.Value.run (F := Ideal) m ρ)

end Cert.Value

end
-- ==== Proof.Value.EvenRef.lean ====
/-
The reference of the input projection of the even layer, read element by element: the normalised rows projected onto
2112 columns, the two latent parts normalised again, and the last 64 columns rotated by the angle of their position.
-/
module

public import proofs.«01_k».proof.Proof.Gen.Reference4Ideal.Run
public import proofs.«01_k».proof.Proof.Value.Math

@[expose] public section

set_option maxRecDepth 16384

noncomputable section

namespace Cert.Value.Even

open Idealize.ShloMosaic Idealize.ShloMosaic.TcCoe Idealize.SL.Sem
open Cert.Value Cert.Reference4Ideal Cert.Reference4Ideal.Gen

/-- A latent row of 512 elements divided by its root mean square and multiplied by the gain. -/
def latent (x g : ℕ → EReal) (k : ℕ) : EReal :=
  x k * Ideal.rsqrt (Ideal.div (∑ l ∈ Finset.range 512, x l * x l) (Ideal.ofBits FTy.f32 0x44000000#32)
    + Ideal.ofBits FTy.f32 0x358637BD#32) * g k

/-- Column `j` of the projection of the normalised row. -/
def proj (x g : ℕ → EReal) (w : ℕ → ℕ → EReal) (j : ℕ) : EReal := ∑ k ∈ Finset.range 2048, rms x g k * w k j

/-- The angle of frequency `i` at position `s`. -/
def angle (s i : ℕ) : EReal :=
  FloatOps.sitofp (F := Ideal) FTy.f32 (BitVec.ofNat 32 s) * Ideal.pow (Ideal.ofBits FTy.f32 0x461C4000#32)
    (Ideal.div (-(Ideal.ofBits FTy.f32 0x40000000#32 * FloatOps.sitofp (F := Ideal) FTy.f32 (BitVec.ofNat 32 i)))
      (Ideal.ofBits FTy.f32 0x42800000#32))

/-- Element `l` of the 64 columns `p` rotated by the angles of position `s`. -/
def rope (p : ℕ → EReal) (s l : ℕ) : EReal :=
  if l < 32 then p l * Ideal.cos (angle s l) - p (32 + l) * Ideal.sin (angle s l)
  else p l * Ideal.cos (angle s (l - 32)) + p (l - 32) * Ideal.sin (angle s (l - 32))

/-- The normalised latent row depends on its 512 elements only. -/
theorem latent_congr {x y : ℕ → EReal} (g : ℕ → EReal) (h : ∀ l : Fin 512, x l = y l) (k : Fin 512) :
    latent x g k = latent y g k := by
  have hs : ∑ l ∈ Finset.range 512, x l * x l = ∑ l ∈ Finset.range 512, y l * y l :=
    Finset.sum_congr rfl fun l hl => by rw [show x l = y l from h ⟨l, Finset.mem_range.1 hl⟩]
  rw [latent, latent, hs, h k]

/-- The rotated columns depend on the 64 columns only. -/
theorem rope_congr {p q : ℕ → EReal} (h : ∀ l : Fin 64, p l = q l) (s : ℕ) (l : Fin 64) : rope p s l = rope q s l := by
  rw [rope, rope, h l]
  by_cases hl : l.val < 32
  · rw [if_pos hl, if_pos hl, show p (32 + l.val) = q (32 + l.val) from h ⟨32 + l.val, by omega⟩]
  · rw [if_neg hl, if_neg hl, show p (l.val - 32) = q (l.val - 32) from h ⟨l.val - 32, by omega⟩]

/-- The rows of both sequences, one after the other. -/
def rows (x : (⟨3, ![2, 4096, 2048]⟩ : Shape).Idx → EReal) (r : ℕ) : ℕ → EReal := at3 x (r / 4096) (r % 4096)

section
variable (x : ℕ → ℕ → EReal) (g : ℕ → EReal) (w : ℕ → ℕ → EReal)

/-- The five results at row `r`: the pooled columns, the two normalised latent parts, the rotated columns, and the
    keys, which are the second latent part, the rotated columns and 64 zeros. -/
def out0 (r j : ℕ) : EReal := proj (x r) g w j
def out1 (qg : ℕ → EReal) (r j : ℕ) : EReal := latent (fun l => proj (x r) g w (1024 + l)) qg j
def out2 (kg : ℕ → EReal) (r j : ℕ) : EReal := latent (fun l => proj (x r) g w (1536 + l)) kg j
def out3 (r j : ℕ) : EReal := rope (fun l => proj (x r) g w (2048 + l)) (r % 4096) j
def out4 (kg : ℕ → EReal) (r j : ℕ) : EReal :=
  if j < 512 then out2 x g w kg r j else if j < 576 then out3 x g w r (j - 512) else 0

end

/-- The reference's normalised rows. -/
def refNorm (x : FVec Ideal S2x4096x2048 .f32) (g : FVec Ideal S1x2048 .f32) : FVec Ideal S2x4096x2048 .f32 :=
  mulf (mulf x (broadcastInDim S2x4096x2048 ![0, 1, 2] bcast_S2x4096x1_S2x4096x2048_0_1_2 (Host.rsqrt (addf (Host.divf
    (broadcastInDim S2x4096x1 ![0, 1] bcast_S2x4096_S2x4096x1_0_1 (Host.reduceAdd (mulf x x) (constant S_ .f32 0x00000000#32)
      reducesTo_S2x4096x2048_S2x4096_d2 h_S_)) (broadcastInDim S2x4096x1 ![] bcast_S_S2x4096x1 (constant S_ .f32 0x45000000#32)))
    (broadcastInDim S2x4096x1 ![] bcast_S_S2x4096x1 (constant S_ .f32 0x358637BD#32))))))
    (broadcastInDim S2x4096x2048 ![0, 1, 2] bcast_S1x1x2048_S2x4096x2048_0_1_2
      (broadcastInDim S1x1x2048 ![2] bcast_S2048_S1x1x2048_2 (shapeCast _ g shapeCasts_S1x2048_S2048)))

/-- The reference's projection. -/
def refProj (x : FVec Ideal S2x4096x2048 .f32) (g : FVec Ideal S1x2048 .f32) (w : FVec Ideal S1x2048x2112 .f32) :
    FVec Ideal S2x4096x2112 .f32 :=
  Host.dotGeneral dot_S2x4096x2048_S2048x2112_S2x4096x2112_2_0_01_1_n_n none (refNorm x g)
    (shapeCast _ w shapeCasts_S1x2048x2112_S2048x2112)

/-- The reference's normalisation of a latent part `y`. -/
def refLatent (y : FVec Ideal S2x4096x512 .f32) (g : FVec Ideal S1x512 .f32) : FVec Ideal S2x4096x512 .f32 :=
  mulf (mulf y (broadcastInDim S2x4096x512 ![0, 1, 2] bcast_S2x4096x1_S2x4096x512_0_1_2 (Host.rsqrt (addf (Host.divf
    (broadcastInDim S2x4096x1 ![0, 1] bcast_S2x4096_S2x4096x1_0_1 (Host.reduceAdd (mulf y y) (constant S_ .f32 0x00000000#32)
      reducesTo_S2x4096x512_S2x4096_d2 h_S_)) (broadcastInDim S2x4096x1 ![] bcast_S_S2x4096x1 (constant S_ .f32 0x44000000#32)))
    (broadcastInDim S2x4096x1 ![] bcast_S_S2x4096x1 (constant S_ .f32 0x358637BD#32))))))
    (broadcastInDim S2x4096x512 ![0, 1, 2] bcast_S1x1x512_S2x4096x512_0_1_2
      (broadcastInDim S1x1x512 ![2] bcast_S512_S1x1x512_2 (shapeCast _ g shapeCasts_S1x512_S512)))

/-- The reference's rotation frequencies. -/
def refFreq : FVec Ideal S32 .f32 :=
  Host.powf (broadcastInDim S32 ![] bcast_S_S32 (constant S_ .f32 0x461C4000#32))
    (Host.divf (Host.negf (addf (broadcastInDim S32 ![] bcast_S_S32 (constant S_ .f32 0x00000000#32))
      (mulf (broadcastInDim S32 ![] bcast_S_S32 (constant S_ .f32 0x40000000#32)) (sitofp .f32 (iotaInDim S32 32 0)))))
      (broadcastInDim S32 ![] bcast_S_S32 (constant S_ .f32 0x42800000#32)))

/-- The reference's rotation angles. -/
def refAngle : FVec Ideal S4096x32 .f32 :=
  mulf (broadcastInDim S4096x32 ![0, 1] bcast_S4096x1_S4096x32_0_1 (broadcastInDim S4096x1 ![0] bcast_S4096_S4096x1_0
      (sitofp .f32 (iotaInDim S4096 32 0))))
    (broadcastInDim S4096x32 ![0, 1] bcast_S1x32_S4096x32_0_1 (broadcastInDim S1x32 ![1] bcast_S32_S1x32_1 refFreq))

/-- A table of the reference for every row. -/
def refTable (t : FVec Ideal S4096x32 .f32) : FVec Ideal S2x4096x32 .f32 :=
  broadcastInDim S2x4096x32 ![0, 1, 2] bcast_S1x4096x32_S2x4096x32_0_1_2
    (broadcastInDim S1x4096x32 ![1, 2] bcast_S4096x32_S1x4096x32_1_2 t)

/-- The reference's rotated columns, from the 64 columns `p`. -/
def refRope (p : FVec Ideal S2x4096x64 .f32) : FVec Ideal S2x4096x64 .f32 :=
  concatenate S2x4096x64 2 [⟨S2x4096x32, (subf
      (mulf (extractStridedSlice S2x4096x32 ![0, 0, 0] p slices_S2x4096x64_S2x4096x32_0_0_0) (refTable (Host.cos refAngle)))
      (mulf (extractStridedSlice S2x4096x32 ![0, 0, 32] p slices_S2x4096x64_S2x4096x32_0_0_32) (refTable (Host.sin refAngle))) :
        FVec Ideal S2x4096x32 .f32)⟩,
    ⟨S2x4096x32, (addf
      (mulf (extractStridedSlice S2x4096x32 ![0, 0, 32] p slices_S2x4096x64_S2x4096x32_0_0_32) (refTable (Host.cos refAngle)))
      (mulf (extractStridedSlice S2x4096x32 ![0, 0, 0] p slices_S2x4096x64_S2x4096x32_0_0_0) (refTable (Host.sin refAngle))) :
        FVec Ideal S2x4096x32 .f32)⟩]
    concatenates_S2x4096x32_S2x4096x32_S2x4096x64_d2

/-- The reference's keys, from the normalised latent part and the rotated columns. -/
def refKeys (y : FVec Ideal S2x4096x512 .f32) (p : FVec Ideal S2x4096x64 .f32) : FVec Ideal S2x4096x640 .f32 :=
  pad S2x4096x640 ![0, 0, 0] ![0, 0, 64] ![0, 0, 0]
    (concatenate S2x4096x576 2 [⟨S2x4096x512, y⟩, ⟨S2x4096x64, p⟩] concatenates_S2x4096x512_S2x4096x64_S2x4096x576_d2)
    (sitofp .f32 (constantI S_ 32 0#32)) pads_S2x4096x576_S2x4096x640_000_000_0640 h_S_

section
variable (x : FVec Ideal S2x4096x2048 .f32) (g : FVec Ideal S1x2048 .f32) (w : FVec Ideal S1x2048x2112 .f32)
variable (qg kg : FVec Ideal S1x512 .f32)

/-- The reference's second latent part, normalised. -/
def refCkv : FVec Ideal S2x4096x512 .f32 :=
  refLatent (extractStridedSlice S2x4096x512 ![0, 0, 1536] (refProj x g w) slices_S2x4096x2112_S2x4096x512_0_0_1536) kg

/-- The reference's rotated last columns. -/
def refKpe : FVec Ideal S2x4096x64 .f32 :=
  refRope (extractStridedSlice S2x4096x64 ![0, 0, 2048] (refProj x g w) slices_S2x4096x2112_S2x4096x64_0_0_2048)

/-- The reference's five results. -/
def refOut0 : FVec Ideal S8192x1024 .f32 :=
  shapeCast _ (extractStridedSlice S2x4096x1024 ![0, 0, 0] (refProj x g w) slices_S2x4096x2112_S2x4096x1024_0_0_0)
    shapeCasts_S2x4096x1024_S8192x1024
def refOut1 : FVec Ideal S8192x512 .bf16 :=
  truncf .bf16 (shapeCast _ (refLatent (extractStridedSlice S2x4096x512 ![0, 0, 1024] (refProj x g w)
    slices_S2x4096x2112_S2x4096x512_0_0_1024) qg) shapeCasts_S2x4096x512_S8192x512) bitsLt_bf16_f32
def refOut2 : FVec Ideal S8192x512 .f32 := shapeCast _ (refCkv x g w kg) shapeCasts_S2x4096x512_S8192x512
def refOut3 : FVec Ideal S8192x64 .f32 := shapeCast _ (refKpe x g w) shapeCasts_S2x4096x64_S8192x64
def refOut4 : FVec Ideal S8192x640 .bf16 :=
  truncf .bf16 (shapeCast _ (refKeys (refCkv x g w kg) (refKpe x g w)) shapeCasts_S2x4096x640_S8192x640) bitsLt_bf16_f32

end

/-- A normalised element of the reference. -/
theorem refNorm_apply (x : FVec Ideal S2x4096x2048 .f32) (g : FVec Ideal S1x2048 .f32) (b : Fin 2) (s : Fin 4096) (k : Fin 2048) :
    refNorm x g (ix3 b s k) = rms (at3 x b s) (at2 g 0) k := by
  pointwise [refNorm]
  rw [rms, sum_lanes _ (fun l => at3 x b s l * at3 x b s l) fun l => by rw [at3_ix x], at2_ix g, at3_ix x]
  rfl

/-- A projected element of the reference. -/
theorem refProj_apply (x : FVec Ideal S2x4096x2048 .f32) (g : FVec Ideal S1x2048 .f32) (w : FVec Ideal S1x2048x2112 .f32)
    (b : Fin 2) (s : Fin 4096) (j : Fin 2112) :
    refProj x g w (ix3 b s j) = proj (at3 x b s) (at2 g 0) (at3 w 0) j := by
  pointwise [refProj]
  rw [proj]
  exact sum_lanes _ (fun k => rms (at3 x b s) (at2 g 0) k * at3 w 0 k j) fun k => by
    rw [refNorm_apply, at3_ix w]; rfl

/-- A normalised element of a latent part. -/
theorem refLatent_apply (y : FVec Ideal S2x4096x512 .f32) (g : FVec Ideal S1x512 .f32) (b : Fin 2) (s : Fin 4096) (k : Fin 512) :
    refLatent y g (ix3 b s k) = latent (at3 y b s) (at2 g 0) k := by
  pointwise [refLatent]
  rw [latent, sum_lanes _ (fun l => at3 y b s l * at3 y b s l) fun l => by rw [at3_ix y], at2_ix g, at3_ix y]
  rfl

/-- The reference's angles. -/
theorem refAngle_apply (s : Fin 4096) (i : Fin 32) : refAngle (ix2 s i) = angle s i := by
  pointwise [refAngle, refFreq]
  rfl

/-- A rotated element. -/
theorem refRope_apply (p : FVec Ideal S2x4096x64 .f32) (b : Fin 2) (s : Fin 4096) (l : Fin 64) :
    refRope p (ix3 b s l) = rope (at3 p b s) s l := by
  pointwise [refRope, refTable]
  simp only [refAngle_apply, at3_ix p]
  rw [rope]
  split
  · rfl
  · rw [show 32 + (l.val - 32) = l.val by omega]

/-- The elements of the keys. -/
theorem refKeys_apply (y : FVec Ideal S2x4096x512 .f32) (p : FVec Ideal S2x4096x64 .f32) (b : Fin 2) (s : Fin 4096) (l : Fin 640) :
    refKeys y p (ix3 b s l) = if l.val < 512 then at3 y b s l else if l.val < 576 then at3 p b s (l.val - 512) else 0 := by
  pointwise [refKeys]
  simp only [at3_ix y, at3_ix p]
  by_cases h : l.val < 512
  · rw [dif_pos (by omega), dif_pos h, if_pos h]
  · rw [if_neg h]
    by_cases h' : l.val < 576
    · rw [dif_pos h', dif_neg h, if_pos h']
    · rw [dif_neg h', if_neg h']
      show (((0#32 : BitVec 32).toInt : ℝ) : EReal) = 0
      simp

section
variable (x : FVec Ideal S2x4096x2048 .f32) (g : FVec Ideal S1x2048 .f32) (w : FVec Ideal S1x2048x2112 .f32)
variable (qg kg : FVec Ideal S1x512 .f32)

/-- A projected element read at any numbers. -/
theorem refProj_at (b : Fin 2) (s : Fin 4096) (j : ℕ) (hj : j < 2112) :
    at3 (refProj x g w) b s j = proj (at3 x b s) (at2 g 0) (at3 w 0) j := by
  rw [at3, dif_pos ⟨b.isLt, s.isLt, hj⟩]
  exact refProj_apply x g w b s ⟨j, hj⟩

/-- The second latent part. -/
theorem refCkv_apply (b : Fin 2) (s : Fin 4096) (k : Fin 512) :
    refCkv x g w kg (ix3 b s k) = latent (fun l => proj (at3 x b s) (at2 g 0) (at3 w 0) (1536 + l)) (at2 kg 0) k := by
  rw [refCkv, refLatent_apply]
  refine latent_congr _ (fun l => ?_) k
  rw [at3, dif_pos ⟨b.isLt, s.isLt, l.isLt⟩]
  pointwise
  exact refProj_apply x g w b s ⟨1536 + l.val, by omega⟩

/-- The rotated columns. -/
theorem refKpe_apply (b : Fin 2) (s : Fin 4096) (k : Fin 64) :
    refKpe x g w (ix3 b s k) = rope (fun l => proj (at3 x b s) (at2 g 0) (at3 w 0) (2048 + l)) s k := by
  rw [refKpe, refRope_apply]
  refine rope_congr (fun l => ?_) s k
  rw [at3, dif_pos ⟨b.isLt, s.isLt, l.isLt⟩]
  pointwise
  exact refProj_apply x g w b s ⟨2048 + l.val, by omega⟩

/-- The reference's results at one element. -/
theorem refOut0_apply (r : Fin 8192) (j : Fin 1024) :
    refOut0 x g w (ix2 r j) = out0 (rows x) (at2 g 0) (at3 w 0) r j := by
  pointwise [refOut0]
  exact refProj_apply x g w ⟨r.val / 4096, by omega⟩ ⟨r.val % 4096, by omega⟩ ⟨j.val, by omega⟩
theorem refOut1_apply (r : Fin 8192) (j : Fin 512) :
    refOut1 x g w qg (ix2 r j) = out1 (rows x) (at2 g 0) (at3 w 0) (at2 qg 0) r j := by
  pointwise [refOut1]
  rw [refLatent_apply]
  refine latent_congr _ (fun l => ?_) j
  rw [at3, dif_pos ⟨by dsimp only; omega, by dsimp only; omega, l.isLt⟩]
  pointwise
  exact refProj_apply x g w ⟨r.val / 4096, by omega⟩ ⟨r.val % 4096, by omega⟩ ⟨1024 + l.val, by omega⟩
theorem refOut2_apply (r : Fin 8192) (j : Fin 512) :
    refOut2 x g w kg (ix2 r j) = out2 (rows x) (at2 g 0) (at3 w 0) (at2 kg 0) r j := by
  pointwise [refOut2]
  exact refCkv_apply x g w kg _ _ j
theorem refOut3_apply (r : Fin 8192) (j : Fin 64) :
    refOut3 x g w (ix2 r j) = out3 (rows x) (at2 g 0) (at3 w 0) r j := by
  pointwise [refOut3]
  exact refKpe_apply x g w _ _ j
theorem refOut4_apply (r : Fin 8192) (j : Fin 640) :
    refOut4 x g w kg (ix2 r j) = out4 (rows x) (at2 g 0) (at3 w 0) (at2 kg 0) r j := by
  pointwise [refOut4]
  rw [refKeys_apply, out4]
  have hb : r.val / 4096 < 2 := by omega
  have hs : r.val % 4096 < 4096 := by omega
  split
  · next h =>
    rw [at3, dif_pos ⟨hb, hs, h⟩]
    exact refCkv_apply x g w kg ⟨r.val / 4096, hb⟩ ⟨r.val % 4096, hs⟩ ⟨j.val, h⟩
  · split
    · next h h' =>
      have hj : j.val - 512 < 64 := by omega
      rw [at3, dif_pos ⟨hb, hs, hj⟩]
      exact refKpe_apply x g w ⟨r.val / 4096, hb⟩ ⟨r.val % 4096, hs⟩ ⟨j.val - 512, hj⟩
    · rfl

end

/-- The reference's run, its results by these names. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v72) = refOut0 (m ((c.tc : Thread nD τ).loc main_arg0)) (m ((c.tc : Thread nD τ).loc main_arg1)) (m ((c.tc : Thread nD τ).loc main_arg2))
      ∧ r.2.mem ((c.tc : Thread nD τ).loc main_v88) = refOut1 (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v89) = refOut2 (m ((c.tc : Thread nD τ).loc main_arg0)) (m ((c.tc : Thread nD τ).loc main_arg1)) (m ((c.tc : Thread nD τ).loc main_arg2)) (m ((c.tc : Thread nD τ).loc main_arg4))
      ∧ r.2.mem ((c.tc : Thread nD τ).loc main_v90) = refOut3 (m ((c.tc : Thread nD τ).loc main_arg0)) (m ((c.tc : Thread nD τ).loc main_arg1)) (m ((c.tc : Thread nD τ).loc main_arg2))
      ∧ r.2.mem ((c.tc : Thread nD τ).loc main_v92) = refOut4 (m ((c.tc : Thread nD τ).loc main_arg0)) (m ((c.tc : Thread nD τ).loc main_arg1)) (m ((c.tc : Thread nD τ).loc main_arg2)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨(h c).1.trans (by unfold refOut0 refProj refNorm; rfl),
      (h c).2.1.trans (by unfold refOut1 refLatent refProj refNorm; rfl),
      (h c).2.2.1.trans (by unfold refOut2 refCkv refLatent refProj refNorm; rfl),
      (h c).2.2.2.1.trans (by unfold refOut3 refKpe refRope refTable refAngle refFreq refProj refNorm Value.res_main_v90; rfl),
      (h c).2.2.2.2.1.trans (by
        unfold refOut4 refKeys refCkv refLatent refKpe refRope refTable refAngle refFreq refProj refNorm Value.res_main_v92; rfl),
      (h c).2.2.2.2.2⟩) (Value.run (F := Ideal) m ρ)

end Cert.Value.Even

end
-- ==== Proof.Value.EvenHost.lean ====
/-
What the host operations before the projection's kernel hand it: the rows, the gains, the weights with the rotated and
padded columns appended, and the two tables of the rotation.
-/
module

public import proofs.«01_k».proof.Proof.Gen.Kernel4Ideal.Value
public import proofs.«01_k».proof.Proof.Value.EvenRef

@[expose] public section

set_option maxRecDepth 16384

noncomputable section

namespace Cert.Value.Even

open Idealize.ShloMosaic Idealize.ShloMosaic.TcCoe Idealize.ShloMosaic.StableHlo Idealize.SL.Sem
open Cert.Value Cert.Kernel4Ideal Cert.Kernel4Ideal.Gen

/-- The rotation frequencies. -/
def hostFreq : FVec Ideal S32 .f32 :=
  Host.powf (broadcastInDim S32 ![] bcast_S_S32 (constant S_ .f32 0x461C4000#32))
    (Host.divf (Host.negf (addf (broadcastInDim S32 ![] bcast_S_S32 (constant S_ .f32 0x00000000#32))
      (mulf (broadcastInDim S32 ![] bcast_S_S32 (constant S_ .f32 0x40000000#32)) (sitofp .f32 (iotaInDim S32 32 0)))))
      (broadcastInDim S32 ![] bcast_S_S32 (constant S_ .f32 0x42800000#32)))

/-- The rotation angles of the rows. -/
def hostAngle : FVec Ideal S8192x32 .f32 :=
  mulf (broadcastInDim S8192x32 ![0, 1] bcast_S8192x1_S8192x32_0_1 (broadcastInDim S8192x1 ![0] bcast_S8192_S8192x1_0
      (sitofp .f32 (shapeCast S8192 (broadcastInDim S2x4096 ![0, 1] bcast_S1x4096_S2x4096_0_1
        (shapeCast S1x4096 (iotaInDim S4096 32 0) shapeCasts_S4096_S1x4096)) shapeCasts_S2x4096_S8192))))
    (broadcastInDim S8192x32 ![0, 1] bcast_S1x32_S8192x32_0_1 (broadcastInDim S1x32 ![1] bcast_S32_S1x32_1 hostFreq))

/-- Three column blocks of a table side by side. -/
def hostTable (a b : FVec Ideal S8192x32 .f32) (z : FVec Ideal S8192x64 .f32) : FVec Ideal S8192x128 .f32 :=
  concatenate S8192x128 1 [⟨S8192x32, a⟩, ⟨S8192x32, b⟩, ⟨S8192x64, z⟩] concatenates_S8192x32_S8192x32_S8192x64_S8192x128_d1

/-- The zeros that fill a table. -/
def hostZero : FVec Ideal S8192x64 .f32 := broadcastInDim S8192x64 ![] bcast_S_S8192x64 (constant S_ .f32 0x00000000#32)

/-- The weights as a matrix. -/
def hostW (w : FVec Ideal S1x2048x2112 .f32) : FVec Ideal S2048x2112 .f32 :=
  shapeCast S2048x2112 w shapeCasts_S1x2048x2112_S2048x2112

/-- The last 64 columns of the weights. -/
def hostRaw (w : FVec Ideal S1x2048x2112 .f32) : FVec Ideal S2048x64 .f32 :=
  extractStridedSlice S2048x64 ![0, 2048] (hostW w) slices_S2048x2112_S2048x64_0_2048

/-- 64 columns padded to 128. -/
def hostPad (p : FVec Ideal S2048x64 .f32) : FVec Ideal S2048x128 .f32 :=
  pad S2048x128 ![0, 0] ![0, 64] ![0, 0] p (sitofp .f32 (constantI S_ 32 0#32)) pads_S2048x64_S2048x128_000_0640 h_S_

/-- The 64 columns with the halves exchanged and the new first half negated. -/
def hostRot (p : FVec Ideal S2048x64 .f32) : FVec Ideal S2048x64 .f32 :=
  concatenate S2048x64 1 [⟨S2048x32, (Host.negf (extractStridedSlice S2048x32 ![0, 32] p slices_S2048x64_S2048x32_0_32) : FVec Ideal S2048x32 .f32)⟩,
    ⟨S2048x32, (extractStridedSlice S2048x32 ![0, 0] p slices_S2048x64_S2048x32_0_0 : FVec Ideal S2048x32 .f32)⟩]
    concatenates_S2048x32_S2048x32_S2048x64_d1

/-- The extended weights from their three blocks of columns. -/
def hostCat (a : FVec Ideal S2048x2048 .f32) (b d : FVec Ideal S2048x128 .f32) : FVec Ideal S2048x2304 .f32 :=
  concatenate S2048x2304 1 [⟨S2048x2048, a⟩, ⟨S2048x128, b⟩, ⟨S2048x128, d⟩] concatenates_S2048x2048_S2048x128_S2048x128_S2048x2304_d1

/-- The extended weights. -/
def hostExt (w : FVec Ideal S1x2048x2112 .f32) : FVec Ideal S2048x2304 .bf16 :=
  truncf .bf16 (hostCat (extractStridedSlice S2048x2048 ![0, 0] (hostW w) slices_S2048x2112_S2048x2048_0_0)
    (hostPad (hostRaw w)) (hostPad (hostRot (hostRaw w)))) bitsLt_bf16_f32

variable (m : (ℓ : Loc nD τ sig) → Buf (Elt Ideal) ℓ)

theorem V_v0 (c : Dev nD) : V m c main_v0 = (shapeCast S8192x2048 (m ((c : Thread nD τ).loc main_arg0) : FVec Ideal S2x4096x2048 .f32)
    shapeCasts_S2x4096x2048_S8192x2048 : FVec Ideal S8192x2048 .f32) := by
  simp only [V, hostOps0, hostOps0_1, hostOps0_2, hostOps0_3, hostOps0_4, List.flatten_cons, List.flatten_nil, List.append_nil, List.cons_append, List.nil_append, TRef.binary, TRef.unary, TRef.toBuf, TRef.ofBuf, cast_eq]
  after_results_simp <;> rfl

theorem V_v24 (c : Dev nD) : V m c main_v24 = hostTable (Host.cos hostAngle) (Host.cos hostAngle) hostZero := by
  simp only [V, hostOps0, hostOps0_1, hostOps0_2, hostOps0_3, hostOps0_4, List.flatten_cons, List.flatten_nil, List.append_nil, List.cons_append, List.nil_append, TRef.binary, TRef.unary, TRef.toBuf, TRef.ofBuf, cast_eq]
  after_results_simp
  dsimp only [Matrix.cons_val_zero, Matrix.cons_val_one, Matrix.cons_val]
  change hostTable _ _ _ = _
  after_results_simp
  rfl

theorem V_v36 (c : Dev nD) : V m c main_v36 = hostExt (m ((c : Thread nD τ).loc main_arg2)) := by
  simp only [V, hostOps0, hostOps0_1, hostOps0_2, hostOps0_3, hostOps0_4, List.flatten_cons, List.flatten_nil, List.append_nil, List.cons_append, List.nil_append, TRef.binary, TRef.unary, TRef.toBuf, TRef.ofBuf, cast_eq]
  after_results_simp
  dsimp only [Matrix.cons_val_zero, Matrix.cons_val_one, Matrix.cons_val]
  change truncf .bf16 (hostCat _ _ _) _ = _
  after_results_simp
  rfl

theorem V_v25 (c : Dev nD) : V m c main_v25 = hostTable (Host.sin hostAngle) (Host.sin hostAngle) hostZero := by
  simp only [V, hostOps0, hostOps0_1, hostOps0_2, hostOps0_3, hostOps0_4, List.flatten_cons, List.flatten_nil, List.append_nil, List.cons_append, List.nil_append, TRef.binary, TRef.unary, TRef.toBuf, TRef.ofBuf, cast_eq]
  after_results_simp
  dsimp only [Matrix.cons_val_zero, Matrix.cons_val_one, Matrix.cons_val]
  change hostTable _ _ _ = _
  after_results_simp
  rfl

theorem V_v38 (c : Dev nD) : V m c main_v38 = (shapeCast S1x2048 (shapeCast S2048
    (m ((c : Thread nD τ).loc main_arg1) : FVec Ideal S1x2048 .f32) shapeCasts_S1x2048_S2048 : FVec Ideal S2048 .f32)
    shapeCasts_S2048_S1x2048 : FVec Ideal S1x2048 .f32) := by
  simp only [V, hostOps0, hostOps0_1, hostOps0_2, hostOps0_3, hostOps0_4, List.flatten_cons, List.flatten_nil, List.append_nil, List.cons_append, List.nil_append, TRef.binary, TRef.unary, TRef.toBuf, TRef.ofBuf, cast_eq]
  after_results_simp <;> rfl

theorem V_v40 (c : Dev nD) : V m c main_v40 = (shapeCast S1x512 (shapeCast S512
    (m ((c : Thread nD τ).loc main_arg3) : FVec Ideal S1x512 .f32) shapeCasts_S1x512_S512 : FVec Ideal S512 .f32)
    shapeCasts_S512_S1x512 : FVec Ideal S1x512 .f32) := by
  simp only [V, hostOps0, hostOps0_1, hostOps0_2, hostOps0_3, hostOps0_4, List.flatten_cons, List.flatten_nil, List.append_nil, List.cons_append, List.nil_append, TRef.binary, TRef.unary, TRef.toBuf, TRef.ofBuf, cast_eq]
  after_results_simp <;> rfl

theorem V_v42 (c : Dev nD) : V m c main_v42 = (shapeCast S1x512 (shapeCast S512
    (m ((c : Thread nD τ).loc main_arg4) : FVec Ideal S1x512 .f32) shapeCasts_S1x512_S512 : FVec Ideal S512 .f32)
    shapeCasts_S512_S1x512 : FVec Ideal S1x512 .f32) := by
  simp only [V, hostOps0, hostOps0_1, hostOps0_2, hostOps0_3, hostOps0_4, List.flatten_cons, List.flatten_nil, List.append_nil, List.cons_append, List.nil_append, TRef.binary, TRef.unary, TRef.toBuf, TRef.ofBuf, cast_eq]
  after_results_simp <;> rfl

/-- The rows as one matrix. -/
theorem hostRows_apply (x : FVec Ideal S2x4096x2048 .f32) (r : Fin 8192) (k : Fin 2048) :
    (shapeCast S8192x2048 x shapeCasts_S2x4096x2048_S8192x2048 : FVec Ideal S8192x2048 .f32) (ix2 r k) = rows x r k := by
  rw [rows, at3, dif_pos ⟨by omega, by omega, k.isLt⟩]
  pointwise

/-- The host's angles: row `r` is at position `r % 4096`. -/
theorem hostAngle_apply (r : Fin 8192) (i : Fin 32) : hostAngle (ix2 r i) = angle (r % 4096) i := by
  pointwise [hostAngle, hostFreq]
  rfl

/-- A row of a table from the angles' function `f`: twice 32 lanes, then zeros. -/
def lanes (f : EReal → EReal) (s l : ℕ) : EReal :=
  if l < 32 then f (angle s l) else if l < 64 then f (angle s (l - 32)) else 0

theorem hostTable_apply (a : FVec Ideal S8192x32 .f32) (f : EReal → EReal) (r : Fin 8192) (l : Fin 128)
    (h : ∀ i : Fin 32, a (ix2 r i) = f (angle (r % 4096) i)) : hostTable a a hostZero (ix2 r l) = lanes f (r % 4096) l := by
  pointwise [hostTable, hostZero]
  simp only [h]
  rw [lanes]
  by_cases h0 : l.val < 32
  · rw [dif_pos h0, if_pos h0]
  · rw [dif_neg h0, if_neg h0]
    by_cases h1 : l.val < 64
    · rw [dif_pos (by omega), if_pos h1]
    · rw [dif_neg (by omega), if_neg h1]

/-- The extended weights: the columns themselves, and from column 2176 on the last 64 with the halves exchanged and the
    new first half negated. -/
def ext (w : ℕ → ℕ → EReal) (k j : ℕ) : EReal :=
  if j < 2112 then w k j else if j < 2176 then 0 else if j < 2208 then -w k (j - 96) else if j < 2240 then w k (j - 160) else 0

theorem hostExt_apply (w : FVec Ideal S1x2048x2112 .f32) (k : Fin 2048) (j : Fin 2304) :
    hostExt w (ix2 k j) = ext (at3 w 0) k j := by
  pointwise [hostExt, hostCat, hostPad, hostRot, hostRaw, hostW]
  have hz : FloatOps.sitofp (F := Ideal) FTy.f32 0#32 = 0 := by
    show (((0#32 : BitVec 32).toInt : ℝ) : EReal) = 0
    simp
  simp only [at3_ix w, hz]
  rw [ext]
  split_ifs <;> first
    | omega
    | rfl
    | exact congrArg (fun n => at3 w 0 k n) (by omega)
    | exact congrArg (fun n => -at3 w 0 k n) (by omega)

end Cert.Value.Even

end
-- ==== Proof.Value.EvenMath.lean ====
/-
The identity between the projection kernel and its reference: on real rows, gains and weights a column of negated weights
gives the negated product, so the two blocks of lanes and the two tables give the rotated columns.
-/
module

public import proofs.«01_k».proof.Proof.Value.EvenHost
public import proofs.«01_k».proof.Proof.Value.Softmax

@[expose] public section

set_option maxRecDepth 16384

noncomputable section

namespace Cert.Value.Even

open Idealize.ShloMosaic

/-- The reciprocal square root of a positive number is real. -/
theorem rsqrt_real {a : EReal} (h : 0 < a) : ((Ideal.rsqrt a).toReal : EReal) = Ideal.rsqrt a := by
  induction a using EReal.rec with
  | bot => exact absurd h not_lt_bot
  | coe r =>
    have hr : 0 < r := EReal.coe_pos.1 h
    rw [Ideal.rsqrt_coe, if_neg hr.le.not_gt, if_neg hr.ne']
    rfl
  | top => rw [Ideal.rsqrt_top, EReal.toReal_zero, EReal.coe_zero]

/-- The literal 2048. -/
theorem ofBits_2048 : Ideal.ofBits FTy.f32 0x45000000#32 = ((2048 : ℝ) : EReal) := by
  simp [Ideal.ofBits, Ideal.ieee]
  rw [← EReal.coe_mul]
  norm_num

/-- The small constant is positive. -/
theorem eps_pos : 0 < Ideal.ofBits FTy.f32 0x358637BD#32 := by
  simp [Ideal.ofBits, Ideal.ieee]
  rw [← EReal.coe_mul]
  exact EReal.coe_pos.2 (by positivity)

/-- A square is not negative. -/
theorem square_nonneg (a : EReal) : 0 ≤ a * a := by
  induction a using EReal.rec with
  | bot => rw [EReal.bot_mul_bot]; exact le_top
  | coe r => rw [← EReal.coe_mul]; exact EReal.coe_nonneg.2 (mul_self_nonneg r)
  | top => rw [EReal.top_mul_top]; exact le_top

/-- An element whose square is not infinite is real. -/
theorem real_of_square {a : EReal} (h : a * a ≠ ⊤) : (a.toReal : EReal) = a := by
  induction a using EReal.rec with
  | bot => exact absurd EReal.bot_mul_bot h
  | coe r => rfl
  | top => exact absurd EReal.top_mul_top h

/-- A normalised row is real when its gain is: a row with an infinite element has an infinite mean and becomes zero. -/
theorem rms_real {x g : ℕ → EReal} (hg : ∀ k, ((g k).toReal : EReal) = g k) {k : ℕ} (hk : k < 2048) :
    ((rms x g k).toReal : EReal) = rms x g k := by
  by_cases ht : ∑ l ∈ Finset.range 2048, x l * x l = ⊤
  · rw [rms, ht, ofBits_2048, Ideal.div, if_neg (by norm_num), ← EReal.coe_inv, EReal.top_mul_coe_of_pos (by norm_num),
      EReal.top_add_of_ne_bot (bot_lt_of_lt eps_pos).ne', Ideal.rsqrt_top, mul_zero, zero_mul, EReal.toReal_zero, EReal.coe_zero]
  · have hx : ((x k).toReal : EReal) = x k := real_of_square fun h => ht (top_le_iff.1 (h.symm.le.trans
      (Finset.single_le_sum (f := fun l => x l * x l) (fun l _ => square_nonneg _) (Finset.mem_range.2 hk))))
    have hs : 0 ≤ ∑ l ∈ Finset.range 2048, x l * x l := Finset.sum_nonneg fun l _ => square_nonneg _
    have hd : 0 ≤ Ideal.div (∑ l ∈ Finset.range 2048, x l * x l) (Ideal.ofBits FTy.f32 0x45000000#32) := by
      rw [ofBits_2048, Ideal.div, if_neg (by norm_num), ← EReal.coe_inv]
      exact mul_nonneg hs (EReal.coe_nonneg.2 (by norm_num))
    rw [rms, ← hx, ← hg k, ← rsqrt_real (lt_of_lt_of_le eps_pos (le_add_of_nonneg_left hd)), ← EReal.coe_mul,
      ← EReal.coe_mul, EReal.toReal_coe]

section
variable {x g : ℕ → EReal} {w : ℕ → ℕ → EReal}

/-- A column of negated weights gives the negated product. -/
theorem proj_neg (hg : ∀ k, ((g k).toReal : EReal) = g k)
    (hw : ∀ k j, ((w k j).toReal : EReal) = w k j) (j : ℕ) :
    ∑ k ∈ Finset.range 2048, rms x g k * -w k j = -proj x g w j := by
  have h1 : ∀ k ∈ Finset.range 2048, rms x g k * w k j = (((rms x g k).toReal * (w k j).toReal : ℝ) : EReal) := fun k hk => by
    rw [EReal.coe_mul, rms_real hg (Finset.mem_range.1 hk), hw]
  have h2 : ∀ k ∈ Finset.range 2048, rms x g k * -w k j = ((-((rms x g k).toReal * (w k j).toReal) : ℝ) : EReal) := fun k hk => by
    rw [mul_neg, h1 k hk, EReal.coe_neg]
  rw [proj, Finset.sum_congr rfl h1, Finset.sum_congr rfl h2, ← Attn.coe_sum, ← Attn.coe_sum,
    Finset.sum_neg_distrib, EReal.coe_neg]

/-- The columns of the extended product. -/
theorem proj_low (x g : ℕ → EReal) (w : ℕ → ℕ → EReal) {j : ℕ} (h : j < 2112) : proj x g (ext w) j = proj x g w j :=
  Finset.sum_congr rfl fun k _ => by rw [ext, if_pos h]

theorem latent_low (x g q : ℕ → EReal) (w : ℕ → ℕ → EReal) (o : ℕ) (h : o + 512 ≤ 2112) (k : Fin 512) :
    latent (fun l => proj x g w (o + l)) q k = latent (fun l => proj x g (ext w) (o + l)) q k :=
  latent_congr (x := fun l => proj x g w (o + l)) (y := fun l => proj x g (ext w) (o + l)) q
    (fun l => (proj_low x g w (by omega)).symm) k

theorem proj_turned (hg : ∀ k, ((g k).toReal : EReal) = g k)
    (hw : ∀ k j, ((w k j).toReal : EReal) = w k j) {l : ℕ} (h : l < 32) :
    proj x g (ext w) (2176 + l) = -proj x g w (2048 + (32 + l)) := by
  rw [← proj_neg hg hw]
  exact Finset.sum_congr rfl fun k _ => by
    rw [ext, if_neg (by omega), if_neg (by omega), if_pos (by omega), show 2176 + l - 96 = 2048 + (32 + l) by omega]

theorem proj_moved (x g : ℕ → EReal) (w : ℕ → ℕ → EReal) {l : ℕ} (h : 32 ≤ l) (h' : l < 64) :
    proj x g (ext w) (2176 + l) = proj x g w (2048 + (l - 32)) :=
  Finset.sum_congr rfl fun k _ => by
    rw [ext, if_neg (by omega), if_neg (by omega), if_neg (by omega), if_pos (by omega),
      show 2176 + l - 160 = 2048 + (l - 32) by omega]

end

/-- Lane `l` of the rotated columns of row `r`, from the extended product and the two tables. -/
def turn (x : ℕ → ℕ → EReal) (g : ℕ → EReal) (w : ℕ → ℕ → EReal) (r l : ℕ) : EReal :=
  proj (x r) g (ext w) (2048 + l) * lanes Ideal.cos (r % 4096) l
    + proj (x r) g (ext w) (2176 + l) * lanes Ideal.sin (r % 4096) l

section
variable {x : ℕ → ℕ → EReal} {g : ℕ → EReal} {w : ℕ → ℕ → EReal}

/-- The first 64 lanes are the rotated columns. -/
theorem turn_eq (hg : ∀ k, ((g k).toReal : EReal) = g k)
    (hw : ∀ k j, ((w k j).toReal : EReal) = w k j) (r : ℕ) {l : ℕ} (h : l < 64) : turn x g w r l = out3 x g w r l := by
  rw [turn, proj_low _ _ _ (by omega), out3, rope, lanes, lanes]
  by_cases h0 : l < 32
  · rw [if_pos h0, if_pos h0, if_pos h0, proj_turned hg hw h0, neg_mul, sub_eq_add_neg]
  · rw [if_neg h0, if_neg h0, if_neg h0, if_pos h, if_pos h, proj_moved _ _ _ (by omega) h]

/-- The others are zero. -/
theorem turn_zero (r : ℕ) {l : ℕ} (h : 64 ≤ l) : turn x g w r l = 0 := by
  rw [turn, lanes, lanes, if_neg (by omega), if_neg (by omega), if_neg (by omega), if_neg (by omega), mul_zero, mul_zero, add_zero]

end

end Cert.Value.Even

end
-- ==== Proof.Value.EvenKernel.lean ====
/-
The projection kernel's five result arrays. A grid point works on 512 rows: it normalises them, multiplies them with
the extended weights, and cuts the result into the pooled columns, the two latent parts it normalises, and two blocks
of 128 lanes from which it makes the rotated columns with the two tables.
-/
module

public import proofs.«01_k».proof.Proof.Value.EvenMath
public import Idealize.ShloMosaic.Lib.Pipeline.ValueKit
public import Idealize.ShloMosaic.Lib.Pipeline.ReadBack

@[expose] public section

set_option maxRecDepth 16384

noncomputable section

namespace Cert.Value.Even

open Idealize.ShloMosaic Idealize.ShloMosaic.TcCoe Idealize.SL.Sem
open Cert.Value Cert.Kernel4Ideal Cert.Kernel4Ideal.Gen

/-- The first latent part. -/
theorem pay1_apply (x : FVec Ideal S512x2048 .f32) (g : FVec Ideal S1x2048 .f32) (e : FVec Ideal S2048x2304 .bf16)
    (q : FVec Ideal S1x512 .f32) (r k : Fin 512) :
    k0_pay1 (F := Ideal) (k0_pay11 x g e) (k0_pay12 q) (k0_pay13 x g e) (ix2 r k)
      = latent (fun l => at2 (k0_pay7 (F := Ideal) x g e) r (1024 + l)) (at2 q 0) k := by
  pointwise [k0_pay1, k0_pay11, k0_pay12, k0_pay13]
  simp only [at2_ix (k0_pay7 (F := Ideal) x g e), at2_ix q]
  rw [latent, ← sum_lanes _ (fun l => at2 (k0_pay7 (F := Ideal) x g e) r (1024 + l)
    * at2 (k0_pay7 (F := Ideal) x g e) r (1024 + l)) fun _ => rfl]
  rfl

/-- The second latent part. -/
theorem pay2_apply (v : FVec Ideal S512x2304 .f32) (q : FVec Ideal S1x512 .f32) (r k : Fin 512) :
    k0_pay2 (F := Ideal) v q (ix2 r k) = latent (fun l => at2 v r (1536 + l)) (at2 q 0) k := by
  pointwise [k0_pay2]
  simp only [at2_ix v, at2_ix q]
  rw [latent, ← sum_lanes _ (fun l => at2 v r (1536 + l) * at2 v r (1536 + l)) fun _ => rfl]
  rfl

/-- The rotated lanes. -/
theorem pay3_apply (v : FVec Ideal S512x2304 .f32) (a b : FVec Ideal S512x128 .f32) (r : Fin 512) (l : Fin 128) :
    k0_pay3 (F := Ideal) v (k0_pay8 a) (k0_pay9 b) (ix2 r l)
      = at2 v r (2048 + l) * a (ix2 r l) + at2 v r (2176 + l) * b (ix2 r l) := by
  pointwise [k0_pay3, k0_pay8, k0_pay9]
  simp only [at2_ix v]

variable (m : (ℓ : Loc nD τ sig) → Buf (Elt Ideal) ℓ)

/-- The rows. -/
abbrev X (c : Dev nD) : ℕ → ℕ → EReal := rows (m ((c : Thread nD τ).loc main_arg0))
/-- The gain. -/
abbrev G (c : Dev nD) : ℕ → EReal := at2 (n0 := 1) (n1 := 2048) (m ((c : Thread nD τ).loc main_arg1)) 0
/-- The weights. -/
abbrev W (c : Dev nD) : ℕ → ℕ → EReal := at3 (n0 := 1) (n1 := 2048) (n2 := 2112) (m ((c : Thread nD τ).loc main_arg2)) 0
/-- The latent gains. -/
abbrev Q (c : Dev nD) : ℕ → EReal := at2 (n0 := 1) (n1 := 512) (m ((c : Thread nD τ).loc main_arg3)) 0
abbrev K (c : Dev nD) : ℕ → EReal := at2 (n0 := 1) (n1 := 512) (m ((c : Thread nD τ).loc main_arg4)) 0

/-- Which block of its array each window holds at point `t`. -/
theorem idx : ∀ t : Fin cfg0.N, win0_0.index t = ![t.val, 0] ∧ win0_1.index t = ![0, 0]
    ∧ win0_2.index t = ![0, 0] ∧ win0_3.index t = ![t.val, 0] ∧ win0_4.index t = ![t.val, 0]
    ∧ win0_5.index t = ![0, 0] ∧ win0_6.index t = ![0, 0] ∧ win0_7.index t = ![t.val, 0]
    ∧ win0_8.index t = ![t.val, 0] ∧ win0_9.index t = ![t.val, 0] ∧ win0_10.index t = ![t.val, 0]
    ∧ win0_11.index t = ![t.val, 0] :=
  (by decide +kernel : ∀ t : Fin grid0.N, _)

theorem iblk0 (c : Dev nD) (t : Fin cfg0.N) (r : Fin 512) (k : Fin 2048) :
    (iblk m c 0 t : FVec Ideal S512x2048 .f32) (ix2 r k) = X m c (512 * t.val + r) k := by
  have h := idx t
  have ht : t.val < 16 := lt_of_lt_of_eq t.isLt N_0
  have e : (iblk m c 0 t : FVec Ideal S512x2048 .f32) (ix2 r k)
      = (V m c main_v0 : FVec Ideal S8192x2048 .f32) (ix2 ⟨512 * t.val + r, by omega⟩ k) := by
    blk_ext [iblk, h]
  rw [e, V_v0]
  exact hostRows_apply _ _ k

theorem iblk1 (c : Dev nD) (t : Fin cfg0.N) (k : Fin 2048) :
    (iblk m c 1 t : FVec Ideal S1x2048 .f32) (ix2 0 k) = G m c k := by
  have h := idx t
  have e : (iblk m c 1 t : FVec Ideal S1x2048 .f32) (ix2 0 k) = (V m c main_v38 : FVec Ideal S1x2048 .f32) (ix2 0 k) := by
    blk_ext [iblk, h]
  rw [e, V_v38, G, at2, dif_pos ⟨by omega, by omega⟩]
  pointwise

theorem iblk2 (c : Dev nD) (t : Fin cfg0.N) (k : Fin 2048) (j : Fin 2304) :
    (iblk m c 2 t : FVec Ideal S2048x2304 .bf16) (ix2 k j) = ext (W m c) k j := by
  have h := idx t
  have e : (iblk m c 2 t : FVec Ideal S2048x2304 .bf16) (ix2 k j) = (V m c main_v36 : FVec Ideal S2048x2304 .bf16) (ix2 k j) := by
    blk_ext [iblk, h]
  rw [e, V_v36, hostExt_apply]

theorem iblk3 (c : Dev nD) (t : Fin cfg0.N) (r : Fin 512) (l : Fin 128) :
    (iblk m c 3 t : FVec Ideal S512x128 .f32) (ix2 r l) = lanes Ideal.cos ((512 * t.val + r) % 4096) l := by
  have h := idx t
  have ht : t.val < 16 := lt_of_lt_of_eq t.isLt N_0
  have e : (iblk m c 3 t : FVec Ideal S512x128 .f32) (ix2 r l)
      = (V m c main_v24 : FVec Ideal S8192x128 .f32) (ix2 ⟨512 * t.val + r, by omega⟩ l) := by
    blk_ext [iblk, h]
  rw [e, V_v24]
  exact hostTable_apply _ Ideal.cos _ l fun i => congrArg Ideal.cos (hostAngle_apply _ i)

theorem iblk4 (c : Dev nD) (t : Fin cfg0.N) (r : Fin 512) (l : Fin 128) :
    (iblk m c 4 t : FVec Ideal S512x128 .f32) (ix2 r l) = lanes Ideal.sin ((512 * t.val + r) % 4096) l := by
  have h := idx t
  have ht : t.val < 16 := lt_of_lt_of_eq t.isLt N_0
  have e : (iblk m c 4 t : FVec Ideal S512x128 .f32) (ix2 r l)
      = (V m c main_v25 : FVec Ideal S8192x128 .f32) (ix2 ⟨512 * t.val + r, by omega⟩ l) := by
    blk_ext [iblk, h]
  rw [e, V_v25]
  exact hostTable_apply _ Ideal.sin _ l fun i => congrArg Ideal.sin (hostAngle_apply _ i)

theorem iblk5 (c : Dev nD) (t : Fin cfg0.N) (k : Fin 512) :
    (iblk m c 5 t : FVec Ideal S1x512 .f32) (ix2 0 k) = Q m c k := by
  have h := idx t
  have e : (iblk m c 5 t : FVec Ideal S1x512 .f32) (ix2 0 k) = (V m c main_v40 : FVec Ideal S1x512 .f32) (ix2 0 k) := by
    blk_ext [iblk, h]
  rw [e, V_v40, Q, at2, dif_pos ⟨by omega, by omega⟩]
  pointwise

theorem iblk6 (c : Dev nD) (t : Fin cfg0.N) (k : Fin 512) :
    (iblk m c 6 t : FVec Ideal S1x512 .f32) (ix2 0 k) = K m c k := by
  have h := idx t
  have e : (iblk m c 6 t : FVec Ideal S1x512 .f32) (ix2 0 k) = (V m c main_v42 : FVec Ideal S1x512 .f32) (ix2 0 k) := by
    blk_ext [iblk, h]
  rw [e, V_v42, K, at2, dif_pos ⟨by omega, by omega⟩]
  pointwise

/-- The product of the normalised rows with the extended weights. -/
theorem acc_at (c : Dev nD) (t : Fin cfg0.N) (r : Fin 512) (j : Fin 2304) :
    k0_pay7 (F := Ideal) (iblk m c 0 t) (iblk m c 1 t) (iblk m c 2 t) (ix2 r j)
      = proj (X m c (512 * t.val + r)) (G m c) (ext (W m c)) j := by
  pointwise [k0_pay7]
  simp only [iblk0, iblk1, iblk2]
  rw [proj]
  refine sum_lanes _ (fun k => rms (X m c (512 * t.val + r)) (G m c) k * ext (W m c) k j) fun k => ?_
  rw [rms]
  exact congrArg (fun s => X m c _ _ * Ideal.rsqrt (Ideal.div s _ + _) * G m c k * ext (W m c) k j) (sum_lanes _ _ fun _ => rfl)

/-- The same at any numbers. -/
theorem acc_num (c : Dev nD) (t : Fin cfg0.N) (r : Fin 512) (j : ℕ) (hj : j < 2304) :
    at2 (k0_pay7 (F := Ideal) (iblk m c 0 t) (iblk m c 1 t) (iblk m c 2 t)) r j
      = proj (X m c (512 * t.val + r)) (G m c) (ext (W m c)) j := by
  rw [at2, dif_pos ⟨r.isLt, hj⟩]
  exact acc_at m c t r ⟨j, hj⟩

/-- The normalised latent row's element depends on that gain only. -/
theorem latent_gain {x g g' : ℕ → EReal} {k : ℕ} (h : g k = g' k) : latent x g k = latent x g' k := by
  rw [latent, latent, h]

theorem first_at (c : Dev nD) (t : Fin cfg0.N) (r k : Fin 512) :
    k0_pay1 (F := Ideal) (k0_pay11 (iblk m c 0 t) (iblk m c 1 t) (iblk m c 2 t)) (k0_pay12 (iblk m c 5 t))
      (k0_pay13 (iblk m c 0 t) (iblk m c 1 t) (iblk m c 2 t)) (ix2 r k)
      = latent (fun l => proj (X m c (512 * t.val + r)) (G m c) (ext (W m c)) (1024 + l)) (Q m c) k := by
  rw [pay1_apply, latent_congr (y := fun l => proj (X m c (512 * t.val + r)) (G m c) (ext (W m c)) (1024 + l)) _
    (fun l => acc_num m c t r (1024 + l) (by omega)) k]
  refine latent_gain ?_
  rw [← iblk5 m c t k, at2_ix (iblk m c 5 t : FVec Ideal S1x512 .f32)]
  rfl

theorem second_at (c : Dev nD) (t : Fin cfg0.N) (r k : Fin 512) :
    k0_pay2 (F := Ideal) (k0_pay7 (iblk m c 0 t) (iblk m c 1 t) (iblk m c 2 t)) (iblk m c 6 t) (ix2 r k)
      = latent (fun l => proj (X m c (512 * t.val + r)) (G m c) (ext (W m c)) (1536 + l)) (K m c) k := by
  rw [pay2_apply, latent_congr (y := fun l => proj (X m c (512 * t.val + r)) (G m c) (ext (W m c)) (1536 + l)) _
    (fun l => acc_num m c t r (1536 + l) (by omega)) k]
  refine latent_gain ?_
  rw [← iblk6 m c t k, at2_ix (iblk m c 6 t : FVec Ideal S1x512 .f32)]
  rfl

theorem turn_at (c : Dev nD) (t : Fin cfg0.N) (r : Fin 512) (l : Fin 128) :
    k0_pay3 (F := Ideal) (k0_pay7 (iblk m c 0 t) (iblk m c 1 t) (iblk m c 2 t)) (k0_pay8 (iblk m c 3 t))
      (k0_pay9 (iblk m c 4 t)) (ix2 r l) = turn (X m c) (G m c) (W m c) (512 * t.val + r) l := by
  rw [pay3_apply, acc_num m c t r _ (by omega), acc_num m c t r _ (by omega), iblk3, iblk4, turn]

/-- The result arrays after the run, element by element. -/
def end7 (c : Dev nD) : FVec Ideal S8192x1024 .f32 := fun i => proj (X m c (i 0).val) (G m c) (ext (W m c)) (i 1).val
def end8 (c : Dev nD) : FVec Ideal S8192x512 .bf16 := fun i =>
  latent (fun l => proj (X m c (i 0).val) (G m c) (ext (W m c)) (1024 + l)) (Q m c) (i 1).val
def end9 (c : Dev nD) : FVec Ideal S8192x512 .f32 := fun i =>
  latent (fun l => proj (X m c (i 0).val) (G m c) (ext (W m c)) (1536 + l)) (K m c) (i 1).val
def end10 (c : Dev nD) : FVec Ideal S8192x64 .f32 := fun i => turn (X m c) (G m c) (W m c) (i 0).val (i 1).val
def end11 (c : Dev nD) : FVec Ideal S8192x640 .bf16 := fun i =>
  if (i 1).val < 512 then latent (fun l => proj (X m c (i 0).val) (G m c) (ext (W m c)) (1536 + l)) (K m c) (i 1).val
  else turn (X m c) (G m c) (W m c) (i 0).val ((i 1).val - 512)

/-- The arrays after the run are these. -/
theorem final7 (c : Dev nD) : (dats m 0 c).arrAt 7 cfg0.N = end7 m c := by
  refine (dats m 0 c).arrAt_eq_of_covers 7 _ (by decide +kernel) fun t hf y => ?_
  blk_simp
  rw [after0_7, outsAt0]
  frame_out
  idx_vars y
  have h := idx t
  unfold end7
  blk_simp [h]
  pointwise [k0_pay10]
  rw [acc_at, Nat.mul_comm t.val 512]

theorem final8 (c : Dev nD) : (dats m 0 c).arrAt 8 cfg0.N = end8 m c := by
  refine (dats m 0 c).arrAt_eq_of_covers 8 _ (by decide +kernel) fun t hf y => ?_
  blk_simp
  rw [after0_8, outsAt0]
  frame_out
  idx_vars y
  rw [first_at]
  have h := idx t
  unfold end8
  blk_simp [h]
  rw [Nat.mul_comm t.val 512]

theorem final9 (c : Dev nD) : (dats m 0 c).arrAt 9 cfg0.N = end9 m c := by
  refine (dats m 0 c).arrAt_eq_of_covers 9 _ (by decide +kernel) fun t hf y => ?_
  blk_simp
  rw [after0_9, outsAt0]
  frame_out
  idx_vars y
  rw [second_at]
  have h := idx t
  unfold end9
  blk_simp [h]
  rw [Nat.mul_comm t.val 512]

theorem final10 (c : Dev nD) : (dats m 0 c).arrAt 10 cfg0.N = end10 m c := by
  refine (dats m 0 c).arrAt_eq_of_covers 10 _ (by decide +kernel) fun t hf y => ?_
  blk_simp
  rw [after0_10, outsAt0]
  frame_out
  idx_vars y
  have h := idx t
  unfold end10
  blk_simp [h]
  pointwise [k0_pay4]
  rw [turn_at, Nat.mul_comm t.val 512]

/-- A point's block of the keys: the second latent part, then the rotated lanes. -/
theorem keys_at (c : Dev nD) (t : Fin cfg0.N) (y : S512x640.Idx) :
    (outsAt0 m c t).2.2.2.2 y = if (y 1).val < 512
      then latent (fun l => proj (X m c (512 * t.val + (y 0).val)) (G m c) (ext (W m c)) (1536 + l)) (K m c) (y 1).val
      else turn (X m c) (G m c) (W m c) (512 * t.val + (y 0).val) ((y 1).val - 512) := by
  rw [outsAt0]
  frame_out
  have h6 : ∀ (r : Fin 512) (l : Fin 128), k0_pay6 (F := Ideal) (k0_pay7 (iblk m c 0 t) (iblk m c 1 t) (iblk m c 2 t))
      (k0_pay8 (iblk m c 3 t)) (k0_pay9 (iblk m c 4 t)) (ix2 r l) = turn (X m c) (G m c) (W m c) (512 * t.val + r) l :=
    fun r l => by pointwise [k0_pay6]; exact turn_at m c t r l
  have h5 : ∀ r k : Fin 512, k0_pay5 (F := Ideal) (k0_pay7 (iblk m c 0 t) (iblk m c 1 t) (iblk m c 2 t)) (iblk m c 6 t) (ix2 r k)
      = latent (fun l => proj (X m c (512 * t.val + r)) (G m c) (ext (W m c)) (1536 + l)) (K m c) k :=
    fun r k => by pointwise [k0_pay5]; exact second_at m c t r k
  generalize k0_pay6 (F := Ideal) (k0_pay7 (iblk m c 0 t) (iblk m c 1 t) (iblk m c 2 t))
      (k0_pay8 (iblk m c 3 t)) (k0_pay9 (iblk m c 4 t)) = p at h6 ⊢
  generalize k0_pay5 (F := Ideal) (k0_pay7 (iblk m c 0 t) (iblk m c 1 t) (iblk m c 2 t)) (iblk m c 6 t) = q at h5 ⊢
  canon_tiles x ha using View.cover_of_tiledBy _ ![512, 128] (by sl_kernel_rfl) y
  · idx_vars x
    rw [ha1, if_neg (by omega), ha0, Nat.add_sub_cancel_left]
    exact h6 x0 x1
  · idx_vars x
    rw [ha1, if_pos x1_lt, ha0]
    exact h5 x0 x1

theorem final11 (c : Dev nD) : (dats m 0 c).arrAt 11 cfg0.N = end11 m c := by
  refine (dats m 0 c).arrAt_eq_of_covers 11 _ (by decide +kernel) fun t hf y => ?_
  blk_simp
  rw [after0_11, keys_at]
  have h := idx t
  unfold end11
  blk_simp [h]
  rw [Nat.mul_comm t.val 512]

end Cert.Value.Even

end
-- ==== Proof.Value.Even.lean ====
/-
The input projection of the even layer: over the extended reals the kernel's five result arrays and the reference's are
equal when the gain and the weights are finite.
-/
module

public import proofs.«01_k».proof.Defs
public import proofs.«01_k».proof.Proof.Gen.Pre_finite4
public import proofs.«01_k».proof.Proof.Value.EvenKernel
public import proofs.«01_k».proof.Proof.Value.Attn
public import Idealize.ShloMosaic.Lib.Claim

@[expose] public section

set_option maxRecDepth 16384

noncomputable section

namespace Cert.Value.Even

open Idealize.ShloMosaic Idealize.ShloMosaic.TcCoe Idealize.SL.Sem

section
variable (m : (ℓ : Loc Cert.Kernel4Ideal.nD Cert.Kernel4Ideal.τ Cert.Kernel4Ideal.sig) → Buf (Elt Ideal) ℓ)
  (c : Dev Cert.Kernel4Ideal.nD)

/-- The precondition: every gain and every weight is finite. -/
theorem finite_args (h : Cert.Pre_Kernel4Ideal_finite4 (hPre_finite4 := Cert.Pre_finite4.Gen.facts) m) :
    (∀ k, ((G m c k).toReal : EReal) = G m c k) ∧ ∀ k j, ((W m c k j).toReal : EReal) = W m c k j := by
  obtain ⟨h3, h4⟩ := IntOp.andi_eq_one.1 (congrFun (h c) ix0)
  refine ⟨fun k => ?_, fun k j => ?_⟩
  · by_cases hi : 0 < 1 ∧ k < 2048
    · rw [G, at2, dif_pos hi]
      exact Attn.coe_of_abs_lt _ (Host.reduce_andi_all _ _ _ _ _ h3 (ix2 ⟨0, hi.1⟩ ⟨k, hi.2⟩))
    · rw [G, at2, dif_neg hi]
      exact congrArg _ EReal.toReal_zero
  · by_cases hi : 0 < 1 ∧ k < 2048 ∧ j < 2112
    · rw [W, at3, dif_pos hi]
      exact Attn.coe_of_abs_lt _ (Host.reduce_andi_all _ _ _ _ _ h4 (ix3 ⟨0, hi.1⟩ ⟨k, hi.2.1⟩ ⟨j, hi.2.2⟩))
    · rw [W, at3, dif_neg hi]
      exact congrArg _ EReal.toReal_zero

/-- The arguments, as the reference takes them. -/
abbrev x4 : FVec Ideal Cert.Kernel4Ideal.S2x4096x2048 .f32 := m ((c.tc : Thread Cert.Kernel4Ideal.nD Cert.Kernel4Ideal.τ).loc Cert.Kernel4Ideal.main_arg0)
abbrev g4 : FVec Ideal Cert.Kernel4Ideal.S1x2048 .f32 := m ((c.tc : Thread Cert.Kernel4Ideal.nD Cert.Kernel4Ideal.τ).loc Cert.Kernel4Ideal.main_arg1)
abbrev w4 : FVec Ideal Cert.Kernel4Ideal.S1x2048x2112 .f32 := m ((c.tc : Thread Cert.Kernel4Ideal.nD Cert.Kernel4Ideal.τ).loc Cert.Kernel4Ideal.main_arg2)
abbrev q4 : FVec Ideal Cert.Kernel4Ideal.S1x512 .f32 := m ((c.tc : Thread Cert.Kernel4Ideal.nD Cert.Kernel4Ideal.τ).loc Cert.Kernel4Ideal.main_arg3)
abbrev k4 : FVec Ideal Cert.Kernel4Ideal.S1x512 .f32 := m ((c.tc : Thread Cert.Kernel4Ideal.nD Cert.Kernel4Ideal.τ).loc Cert.Kernel4Ideal.main_arg4)

/-- The pooled columns. -/
theorem eq0 : refOut0 (x4 m c) (g4 m c) (w4 m c) = end7 m c := by
  funext i
  idx_vars i
  exact (refOut0_apply _ _ _ i0 i1).trans (proj_low _ _ _ (by omega)).symm

/-- The latent parts. -/
theorem eq1 : refOut1 (x4 m c) (g4 m c) (w4 m c) (q4 m c) = end8 m c := by
  funext i
  idx_vars i
  exact (refOut1_apply _ _ _ _ i0 i1).trans (latent_low _ _ _ _ _ (by omega) i1)

theorem eq2 : refOut2 (x4 m c) (g4 m c) (w4 m c) (k4 m c) = end9 m c := by
  funext i
  idx_vars i
  exact (refOut2_apply _ _ _ _ i0 i1).trans (latent_low _ _ _ _ _ (by omega) i1)

variable (hG : ∀ k, ((G m c k).toReal : EReal) = G m c k)
  (hW : ∀ k j, ((W m c k j).toReal : EReal) = W m c k j)
include hG hW

/-- The rotated columns. -/
theorem eq3 : refOut3 (x4 m c) (g4 m c) (w4 m c) = end10 m c := by
  funext i
  idx_vars i
  exact (refOut3_apply _ _ _ i0 i1).trans (turn_eq hG hW i0 i1.isLt).symm

/-- The keys. -/
theorem eq4 : refOut4 (x4 m c) (g4 m c) (w4 m c) (k4 m c) = end11 m c := by
  funext i
  idx_vars i
  refine (refOut4_apply _ _ _ _ i0 i1).trans ?_
  show out4 (X m c) (G m c) (W m c) (K m c) i0 i1 = if i1.val < 512
    then latent (fun l => proj (X m c i0) (G m c) (ext (W m c)) (1536 + l)) (K m c) i1
    else turn (X m c) (G m c) (W m c) i0 (i1.val - 512)
  rw [out4]
  by_cases h : i1.val < 512
  · rw [if_pos h, if_pos h]
    exact latent_low _ _ _ _ _ (by omega) ⟨i1.val, h⟩
  · rw [if_neg h, if_neg h]
    by_cases h' : i1.val < 576
    · rw [if_pos h', turn_eq hG hW i0 (by omega)]
    · rw [if_neg h', turn_zero i0 (by omega)]

end

/-- The projection kernel computes what its reference computes, under the precondition. -/
theorem even_algebraic : Cert.algebraic_Kernel4Ideal_Reference4Ideal_pre_finite4 (hKernel4Ideal := Cert.Kernel4Ideal.Gen.facts)
    (hReference4Ideal := Cert.Reference4Ideal.Gen.facts) (hPre_finite4 := Cert.Pre_finite4.Gen.facts) := by
  intro m g m' g' hpre hagree
  refine ⟨fun c => end7 m c, fun c => end8 m c, fun c => end9 m c, fun c => end10 m c, fun c => end11 m c, ?_, ?_⟩
  · refine θ_run_mono (Cert.Kernel4Ideal.Value.run_blocks m g) fun r hr c => ?_
    obtain ⟨h0, h1, h2, h3, h4, hargs⟩ := hr c
    exact ⟨h0.trans (final7 m c), h1.trans (final8 m c), h2.trans (final9 m c), h3.trans (final10 m c),
      h4.trans (final11 m c), hargs⟩
  · refine θ_run_mono (ref_run m' g') fun r hr c => ?_
    obtain ⟨h0, h1, h2, h3, h4, hargs⟩ := hr c
    obtain ⟨a0, a1, a2, a3, a4⟩ := hagree c
    obtain ⟨hG, hW⟩ := finite_args m c hpre
    rw [a0, a1, a2] at h0 h1 h2 h3 h4
    rw [a3] at h1
    rw [a4] at h2 h4
    exact ⟨h0.trans (eq0 m c), h1.trans (eq1 m c), h2.trans (eq2 m c), h3.trans (eq3 m c hG hW),
      h4.trans (eq4 m c hG hW), hargs⟩

/-- The reference runs, leaves its arguments as they were and every semaphore at zero. -/
theorem even_reference_frame : Cert.quiescent_Reference4Ideal (hReference4Ideal := Cert.Reference4Ideal.Gen.facts) := fun m ρ _ =>
  (θ_run Cert.Reference4Ideal.defs _ _).mono
    (fun r h => ⟨fun c => (h c).2.2.2.2.2, sem_eq_zero_of_no_sems (by decide) r.2⟩)
    (Cert.Reference4Ideal.Value.run (F := Ideal) m ρ)

end Cert.Value.Even

end
-- ==== Proof.lean ====
/-
The proof of the certificate's claims: each conjunct is a generated frame, a frame of Proof/Flash/ or one
of the theorems of Proof/Value/.
-/
module

public import proofs.«01_k».proof.Defs
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Pre_finite4
public import proofs.«01_k».proof.Proof.Gen.Kernel2Ideal.Value
public import proofs.«01_k».proof.Proof.Gen.Kernel3Ideal.Value
public import proofs.«01_k».proof.Proof.Gen.ReferenceIdeal.Run
public import proofs.«01_k».proof.Proof.Gen.Reference2Ideal.Run
public import proofs.«01_k».proof.Proof.Gen.Reference3Ideal.Run
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Pre_finite
public import proofs.«01_k».proof.Proof.Gen.Pre_weights
public import proofs.«01_k».proof.Proof.Gen.Kernel4Ideal.Value
public import proofs.«01_k».proof.Proof.Gen.Reference4Ideal.Run
public import Idealize.ShloMosaic.Adequacy
public import Idealize.ShloMosaic.Init
public import proofs.«01_k».proof.Proof.Flash.Frame
public import proofs.«01_k».proof.Proof.Flash.Words
public import proofs.«01_k».proof.Proof.Value.Attn
public import proofs.«01_k».proof.Proof.Value.Moe
public import proofs.«01_k».proof.Proof.Value.Ffn
public import proofs.«01_k».proof.Proof.Value.Even

@[expose] public section

noncomputable section

namespace Cert.Proof

/-- All claims together. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Pre_finite.Gen.facts, Cert.Pre_weights.Gen.facts, Cert.Pre_finite4.Gen.facts,
    fun m ρ _ => Cert.Kernel.Flash.frame m ρ trivial,
    fun m ρ _ => Cert.KernelIdeal.Flash.frame m ρ,
    fun m ρ _ => Cert.KernelIdeal.Flash.frame m ρ,
    fun m ρ _ => Cert.Value.Attn.attn_reference_frame m ρ trivial,
    fun m ρ _ => Cert.Value.Attn.attn_reference_frame m ρ trivial,
    fun m ρ _ => Cert.Kernel2.Gen.frame m ρ,
    fun m ρ _ => Cert.Kernel2Ideal.Gen.frame m ρ,
    fun m ρ _ => Cert.Kernel2Ideal.Gen.frame m ρ,
    fun m ρ _ => Cert.Value.moe_reference_frame m ρ trivial,
    fun m ρ _ => Cert.Value.moe_reference_frame m ρ trivial,
    fun m ρ _ => Cert.Kernel3.Gen.frame m ρ,
    fun m ρ _ => Cert.Kernel3Ideal.Gen.frame m ρ,
    Cert.Value.ffn_reference_frame,
    fun m ρ _ => Cert.Kernel4.Gen.frame m ρ,
    fun m ρ _ => Cert.Kernel4Ideal.Gen.frame m ρ,
    fun m ρ _ => Cert.Kernel4Ideal.Gen.frame m ρ,
    fun m ρ _ => Cert.Value.Even.even_reference_frame m ρ trivial,
    fun m ρ _ => Cert.Value.Even.even_reference_frame m ρ trivial,
    Cert.Value.Attn.attn_preserves,
    Cert.Value.Attn.attn_algebraic,
    trivial,
    Cert.Value.moe_algebraic,
    trivial,
    Cert.Value.ffn_algebraic,
    trivial,
    Cert.Value.Even.even_algebraic⟩

end Cert.Proof

end
